-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S512 : Shape := ⟨1, ![512]⟩
abbrev S1x512 : Shape := ⟨2, ![1, 512]⟩
abbrev S4x128x512 : Shape := ⟨3, ![4, 128, 512]⟩
abbrev S4 : Shape := ⟨1, ![4]⟩
abbrev S1x128x512 : Shape := ⟨3, ![1, 128, 512]⟩
abbrev S128x512 : Shape := ⟨2, ![128, 512]⟩
abbrev S_ : Shape := ⟨0, ![]⟩
abbrev S1 : Shape := ⟨1, ![1]⟩
abbrev S128 : Shape := ⟨1, ![128]⟩
abbrev S128x1 : Shape := ⟨2, ![128, 1]⟩

abbrev nBuf : Space → Nat
  | .hbm => 5
  | .vmem => 6
  | .smem => 0
  | _ => 0

abbrev bufTy : (tb : Table) → Fin (tcTables nBuf tb) → BufTy
  | .hbm, ⟨0, _⟩ => ⟨S1x512x512, .bf16⟩
  | .hbm, ⟨1, _⟩ => ⟨S512x512, .bf16⟩
  | .hbm, ⟨2, _⟩ => ⟨S512, .bf16⟩
  | .hbm, ⟨3, _⟩ => ⟨S1x512, .bf16⟩
  | .hbm, ⟨4, _⟩ => ⟨S512x512, .f32⟩
  | .local _ .vmem, ⟨0, _⟩ => ⟨S1x512x512, .bf16⟩
  | .local _ .vmem, ⟨1, _⟩ => ⟨S512x512, .bf16⟩
  | .local _ .vmem, ⟨2, _⟩ => ⟨S1x512, .bf16⟩
  | .local _ .vmem, ⟨3, _⟩ => ⟨S512x512, .f32⟩
  | .local _ .vmem, ⟨4, _⟩ => ⟨S4x128x512, .bf16⟩
  | .local _ .vmem, ⟨5, _⟩ => ⟨S4x128x512, .bf16⟩
  | _, _ => ⟨S1x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_21 : BitVec 32 := 16#32
  let v31 : BitVec 32 := Scalar.muli v9 c16_i32_21
  let v32 : BitVec 32 := Scalar.addi c0_i32 v31
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_22 : BitVec 32 := 4#32
  let v33 : BitVec 32 := Scalar.muli v5 c4_i32_22
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v35 : BitVec 32 := Scalar.muli v8 c1_i32_23
  let v36 : BitVec 32 := Scalar.addi v34 v35
  v36.toNat
def k0_dev2 (d0 : Dev nD) : Nat :=
  let c0_i32_30 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_29 : BitVec 32 := 16#32
  let v37 : BitVec 32 := Scalar.muli v9 c16_i32_29
  let v38 : BitVec 32 := Scalar.addi c0_i32_30 v37
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_31 : BitVec 32 := 4#32
  let v39 : BitVec 32 := Scalar.muli v5 c4_i32_31
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v41 : BitVec 32 := Scalar.muli v8 c1_i32_32
  let v42 : BitVec 32 := Scalar.addi v40 v41
  v42.toNat
def k0_dev3 (d0 : Dev nD) : Nat :=
  let c0_i32_42 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_41 : BitVec 32 := 16#32
  let v51 : BitVec 32 := Scalar.muli v9 c16_i32_41
  let v52 : BitVec 32 := Scalar.addi c0_i32_42 v51
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_43 : BitVec 32 := 4#32
  let v53 : BitVec 32 := Scalar.muli v5 c4_i32_43
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v55 : BitVec 32 := Scalar.muli v8 c1_i32_44
  let v56 : BitVec 32 := Scalar.addi v54 v55
  v56.toNat
def k0_dev4 (d0 : Dev nD) : Nat :=
  let c0_i32_54 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_53 : BitVec 32 := 16#32
  let v65 : BitVec 32 := Scalar.muli v9 c16_i32_53
  let v66 : BitVec 32 := Scalar.addi c0_i32_54 v65
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_55 : BitVec 32 := 4#32
  let v67 : BitVec 32 := Scalar.muli v5 c4_i32_55
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v69 : BitVec 32 := Scalar.muli v8 c1_i32_56
  let v70 : BitVec 32 := Scalar.addi v68 v69
  v70.toNat
def k0_dev5 (d0 : Dev nD) : Nat :=
  let c0_i32_65 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_64 : BitVec 32 := 16#32
  let v79 : BitVec 32 := Scalar.muli v9 c16_i32_64
  let v80 : BitVec 32 := Scalar.addi c0_i32_65 v79
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_66 : BitVec 32 := 4#32
  let v81 : BitVec 32 := Scalar.muli v5 c4_i32_66
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v83 : BitVec 32 := Scalar.muli v8 c1_i32_67
  let v84 : BitVec 32 := Scalar.addi v82 v83
  v84.toNat
abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x512 : Shape := ⟨3, ![2, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩

abbrev nBuf : Space → Nat
  | .hbm => 25
  | .vmem => 0
  | .smem => 0
  | _ => 0

abbrev bufTy : (tb : Table) → Fin (tcTables nBuf tb) → BufTy
  | .hbm, ⟨0, _⟩ => ⟨S2x512x512, .bf16⟩
  | .hbm, ⟨1, _⟩ => ⟨S512x512, .bf16⟩
  | .hbm, ⟨2, _⟩ => ⟨S512, .bf16⟩
  | .hbm, ⟨3, _⟩ => ⟨S2x512x512, .f32⟩
  | .hbm, ⟨4, _⟩ => ⟨S512x512, .f32⟩
  | .hbm, ⟨5, _⟩ => ⟨S512, .f32⟩
  | .hbm, ⟨6, _⟩ => ⟨S_, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S512x1, .f32⟩
  | .hbm, ⟨20, _⟩ => ⟨S512x512, .f32⟩
  | .hbm, ⟨21, _⟩ => ⟨S512x512, .f32⟩
  | .hbm, ⟨22, _⟩ => ⟨S1x512, .f32⟩
  | .hbm, ⟨23, _⟩ => ⟨S512x512, .f32⟩
  | .hbm, ⟨24, _⟩ => ⟨S512x512, .f32⟩
  | _, _ => ⟨S2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Steps.lean ====
/- The kernel body as four loops over the four chunks of 128 rows. The body is printed unrolled; here each loop's step is
   written once, for a chunk `k`, and the printed body is shown to be the sixteen steps in order, by unfolding. -/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.KernelIdeal.Talk

open Idealize.ShloMosaic Idealize.ShloMosaic.TcCoe Idealize.SL.Sem
open Cert.KernelIdeal Cert.KernelIdeal.Gen

variable {F : FTy → Type} [FloatOps F]

/-! ## The buffers and the places in them -/

/-- The staged partial, residual and scale, the staged result, and the two scratch buffers. -/
abbrev pM : Memref sig .tc .vmem S1x512x512 .bf16 := Memref.whole cc0_stg0_0
abbrev rM : Memref sig .tc .vmem S512x512 .bf16 := Memref.whole cc0_stg1_0
abbrev gM : Memref sig .tc .vmem S1x512 .bf16 := Memref.whole cc0_stg2_0
abbrev oM : Memref sig .tc .vmem S512x512 .f32 := Memref.whole cc0_stg3_0
abbrev sM : Memref sig .tc .vmem S4x128x512 .bf16 := Memref.whole cc0_scratch0
abbrev vM : Memref sig .tc .vmem S4x128x512 .bf16 := Memref.whole cc0_scratch1

theorem inPartial (k : Fin 4) : ∀ a, (![0, 128 * k.val, 0] : Fin 3 → ℕ) a + S1x128x512.size a ≤ S1x512x512.size a := by
  revert k; decide
theorem inSlots (k : Fin 4) : ∀ a, (![k.val, 0, 0] : Fin 3 → ℕ) a + S1x128x512.size a ≤ S4x128x512.size a := by
  revert k; decide
theorem inRows (k : Fin 4) : ∀ a, (![128 * k.val, 0] : Fin 2 → ℕ) a + S128x512.size a ≤ S512x512.size a := by
  revert k; decide
theorem inSems (k : Fin 4) : ∀ a, (![k.val] : Fin 1 → ℕ) a + S1.size a ≤ S4.size a := by revert k; decide

/-- Rows `128 k … 128 k + 127` of the staged partial. -/
abbrev partRect (k : Fin 4) : Rect S1x512x512 := Rect.unit (s := S1x512x512) ![0, 128 * k.val, 0] S1x128x512.size (inPartial k)
/-- Slot `k` of a scratch buffer. -/
abbrev slotRect (k : Fin 4) : Rect S4x128x512 := Rect.unit (s := S4x128x512) ![k.val, 0, 0] S1x128x512.size (inSlots k)
/-- Rows `128 k … 128 k + 127` of the staged residual, and of the staged result. -/
abbrev rowRect (k : Fin 4) : Rect S512x512 := Rect.unit (s := S512x512) ![128 * k.val, 0] S128x512.size (inRows k)
/-- The whole staged scale. -/
abbrev scaleRect : Rect S1x512 := Rect.unit (s := S1x512) ![0, 0] S1x512.size inb_S1x512_S1x512_0_0

theorem slot_packed (k : Fin 4) : (slotRect k).PackedRows (EltTy.packing .bf16) := by revert k; decide
theorem slot_words (k : Fin 4) : (slotRect k).WholeWords (EltTy.packing .bf16) := by revert k; decide

/-- Slot `k` of the send buffer and of the receive buffer, as the copies name them. -/
abbrev sSlot (k : Fin 4) : Memref sig .tc .vmem S128x512 .bf16 :=
  (sM.slice (slotRect k) (fun _ => rfl)).squeeze S128x512 squeezes_S1x128x512_S128x512
abbrev vSlot (k : Fin 4) : Memref sig .tc .vmem S128x512 .bf16 :=
  (vM.slice (slotRect k) (fun _ => rfl)).squeeze S128x512 squeezes_S1x128x512_S128x512

/-- The semaphore a copy's departure is counted on, and its arrival's. -/
abbrev sSem (k : Fin 4) : DmaSem sig :=
  ((cc0_scratch2.slice (Rect.unit (s := S4) ![k.val] S1.size (inSems k))).squeeze S_ squeezes_S1_S_).sem
abbrev vSem (k : Fin 4) : DmaSem sig :=
  ((cc0_scratch3.slice (Rect.unit (s := S4) ![k.val] S1.size (inSems k))).squeeze S_ squeezes_S1_S_).sem
/-- The barrier semaphore. -/
abbrev bSem : Sem sig := (SemArray.scalar (sig.barrier 0 rfl) : Sems sig S_).sem

theorem sWords (k : Fin 4) : (sSlot k).view.WordExact :=
  ((Memref.isWhole_whole cc0_scratch0).wordExact_slice rfl _ (slot_words k)).reshape _ _
theorem vWords (k : Fin 4) : (vSlot k).view.WordExact :=
  ((Memref.isWhole_whole cc0_scratch1).wordExact_slice rfl _ (slot_words k)).reshape _ _

/-! ## The partner -/

/-- The device at the other end of the first mesh axis. -/
def pr (c : Dev nD) : Dev nD := ⟨(c.val + 16) % 32, Nat.mod_lt _ (by decide)⟩
theorem pr_pr (c : Dev nD) : pr (pr c) = c := by revert c; decide
def swap : Dev nD ≃ Dev nD := ⟨pr, pr, pr_pr, pr_pr⟩

/-- The device the barrier signal goes to, and the one chunk `k` is sent to, as the program computes them. -/
def signalTo (c : Dev nD) : Dev nD := ⟨k0_dev1 c, k0_dev1_lt c⟩
def sendTo (c : Dev nD) : Fin 4 → Dev nD
  | 0 => ⟨k0_dev2 c, k0_dev2_lt c⟩
  | 1 => ⟨k0_dev3 c, k0_dev3_lt c⟩
  | 2 => ⟨k0_dev4 c, k0_dev4_lt c⟩
  | 3 => ⟨k0_dev5 c, k0_dev5_lt c⟩
theorem signalTo_eq (c : Dev nD) : signalTo c = pr c := by revert c; decide
theorem sendTo_eq (c : Dev nD) (k : Fin 4) : sendTo c k = pr c := by revert k c; decide

/-! ## The steps -/

/-- Copy chunk `k` of the partial into slot `k` of the send buffer. -/
def fill (k : Fin 4) : Prog (TpuEff nD τ sig (Elt F) Λ₀ .tc) PUnit := do
  let v ← Prog.lift (.load pM (partRect k).toLoadRect (View.loadsAt_vmem h_S1x128x512))
  let _ ← Prog.lift (.load sM (slotRect k).toLoadRect (View.loadsAt_vmem h_S1x128x512))
  Prog.lift (.store sM (slotRect k) (k0_pay1 v) Finset.univ
    (View.stores_vmem h_S1x128x512 ((Memref.isWhole_whole cc0_scratch0).storeExact_slice rfl _ (slot_packed k)) (fun _ => rfl)) (.inl rfl))

/-- Start the copy of slot `k` of the send buffer to slot `k` of device `n`'s receive buffer. -/
def send (n : Dev nD) (k : Fin 4) : Prog (TpuEff nD τ sig (Elt F) Λ₀ .tc) PUnit :=
  Prog.lift (.enqueueDma (sSlot k) (.remote (Dev.tc n) (vSlot k) (.dma (sSem k))) (.dma (vSem k)) (sWords k) (vWords k)
    ⟨⟨rfl, Or.inl rfl⟩, trivial⟩)

/-- Wait for chunk `k` to arrive; normalise the sum of the two partials and the residual; store 128 rows of the result. -/
def take (k : Fin 4) : Prog (TpuEff nD τ sig (Elt F) Λ₀ .tc) PUnit := do
  Prog.lift (.waitDma2 (vSem k) (sSlot k) (vSlot k) (sWords k) (vWords k))
  let a ← Prog.lift (.load pM (partRect k).toLoadRect (View.loadsAt_vmem h_S1x128x512))
  let b ← Prog.lift (.load vM (slotRect k).toLoadRect (View.loadsAt_vmem h_S1x128x512))
  let r ← Prog.lift (.load rM (rowRect k).toLoadRect (View.loadsAt_vmem h_S128x512))
  let g ← Prog.lift (.load gM scaleRect.toLoadRect (View.loadsAt_vmem h_S1x512))
  let _ ← Prog.lift (.load oM (rowRect k).toLoadRect (View.loadsAt_vmem h_S128x512))
  Prog.lift (.store oM (rowRect k) (k0_pay15 a b r g) Finset.univ (View.stores_vmem_bits_univ h_S128x512 rfl) (.inl rfl))

/-- Wait until chunk `k` has left the send buffer. -/
def drain (k : Fin 4) : Prog (TpuEff nD τ sig (Elt F) Λ₀ .tc) PUnit :=
  Prog.lift (.waitDma2 (sSem k) (vSlot k) (sSlot k) (vWords k) (sWords k))

/-- A step done for the four chunks in order. -/
def four (g : Fin 4 → Prog (TpuEff nD τ sig (Elt F) Λ₀ .tc) PUnit) : Prog (TpuEff nD τ sig (Elt F) Λ₀ .tc) PUnit := do
  g 0
  g 1
  g 2
  g 3

/-- The body in terms of the steps. -/
def steps : Prog (TpuEff nD τ sig (Elt F) Λ₀ .tc) PUnit := do
  let c ← Prog.lift .deviceId
  four fill
  semSignalWord (signalTo c) bSem 1#32
  semWaitWord bSem 1#32
  four (fun k => send (sendTo c k) k)
  four take
  four drain

set_option maxRecDepth 65536 in
/-- The printed body is the steps. -/
theorem body_eq (t : Fin cfg0.N) : bodyAt0 (F := F) t = steps := by
  unfold bodyAt0
  rfl

end Cert.KernelIdeal.Talk

end
-- ==== Proof.Cells.lean ====
/- The protocol two partner devices follow. Each device has nine cells: its barrier semaphore, and for each chunk one
   semaphore counting the chunk's departure and one counting its partner's chunk's arrival. Each is raised once.
   The barrier is raised by the partner, who lends with it the four slots of its receive buffer; the arrival of a chunk
   is raised by the partner's copy, which hands the slot back holding the partner's rows; the departure is raised by the
   device's own copy, which hands the slot of the send buffer back. -/
module

public import proofs.«01_k».proof.Proof.Steps
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The ghost algebra: the pipeline library's copy, and the protocol's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## Cells -/

theorem sSem_val (k : Fin 4) : (sSem k).val = 4 + k.val := by revert k; decide
theorem vSem_val (k : Fin 4) : (vSem k).val = 8 + k.val := by revert k; decide

abbrev barCell (c : Dev nD) : GSem nD τ sig := ((c : Thread nD τ), .reg bSem)
abbrev sCell (c : Dev nD) (k : Fin 4) : GSem nD τ sig := ((c : Thread nD τ), .dma (sSem k))
abbrev vCell (c : Dev nD) (k : Fin 4) : GSem nD τ sig := ((c : Thread nD τ), .dma (vSem k))

/-- What one chunk's copy adds to a semaphore. -/
def N : ℕ := (vSlot 0).view.dmaCredit
theorem N_pos : 0 < N := View.dmaCredit_pos _ (by decide)
theorem credit_v (k : Fin 4) : (vSlot k).view.dmaCredit = N := rfl
theorem credit_s (k : Fin 4) : (sSlot k).view.dmaCredit = N := rfl

/-! ## Contents -/

/-- Chunk `k` of a partial: its rows `128 k … 128 k + 127`. -/
def chunk (k : Fin 4) (x : S1x512x512.Idx → Elt F .bf16) : S128x512.Idx → Elt F .bf16 :=
  shapeCast S128x512 (pM.view.readAt (Elt F) (partRect k).toLoadRect x) shapeCasts_S1x128x512_S128x512

/-- Slot `k` of device `c`'s receive buffer, and of its send buffer, at contents `f`. -/
abbrev vPts (c : Dev nD) (k : Fin 4) (f : Buf (Elt F) ((vSlot k).view.loc (c : Thread nD τ))) : sProp 𝕄 :=
  (vSlot k).view.loc (c : Thread nD τ) ↦[(vSlot k).view.set]{fullShare} f
abbrev sPts (c : Dev nD) (k : Fin 4) (f : Buf (Elt F) ((sSlot k).view.loc (c : Thread nD τ))) : sProp 𝕄 :=
  (sSlot k).view.loc (c : Thread nD τ) ↦[(sSlot k).view.set]{fullShare} f

/-- The slots at contents not named. -/
def vAny (c : Dev nD) (k : Fin 4) : sProp 𝕄 := iprop(∃ f, vPts c k f)
def sAny (c : Dev nD) (k : Fin 4) : sProp 𝕄 := iprop(∃ f, sPts c k f)
/-- The slots holding the chunk of a partial `x`. -/
def vHolds (c : Dev nD) (k : Fin 4) (x : S1x512x512.Idx → Elt F .bf16) : sProp 𝕄 :=
  iprop(∃ f, ⌜(vSlot k).view.read (Elt F) f = chunk k x⌝ ∗ vPts c k f)
def sHolds (c : Dev nD) (k : Fin 4) (x : S1x512x512.Idx → Elt F .bf16) : sProp 𝕄 :=
  iprop(∃ f, ⌜(sSlot k).view.read (Elt F) f = chunk k x⌝ ∗ sPts c k f)

/-! ## The schedule -/

/-- Paid to device `c`'s barrier by its partner: the partner's receive slots, whose arrival cells are open. -/
def barPay (c : Dev nD) : sProp 𝕄 :=
  bigSep Finset.univ fun k : Fin 4 => iprop(vAny (pr c) k ∗ reached ER (vCell (pr c) k) 0)

/-- The chunk whose copy a semaphore counts. -/
def chunkOf (s : DmaSem sig) : Fin 4 := ⟨s.val % 4, Nat.mod_lt _ (by decide)⟩
theorem chunkOf_s (k : Fin 4) : chunkOf (sSem k) = k := by revert k; decide
theorem chunkOf_v (k : Fin 4) : chunkOf (vSem k) = k := by revert k; decide

/-- The semaphores the protocol uses. -/
def IsTalk : SemLoc sig → Prop
  | .reg s => s = bSem
  | .dma s => 4 ≤ s.val
instance : DecidablePred IsTalk := fun
  | .reg s => inferInstanceAs (Decidable (s = bSem))
  | .dma s => inferInstanceAs (Decidable (4 ≤ s.val))

/-- What a device is paid at a semaphore. `X c` is device `c`'s partial. -/
def pay (X : Dev nD → S1x512x512.Idx → Elt F .bf16) (c : Dev nD) : SemLoc sig → sProp 𝕄
  | .reg _ => barPay c
  | .dma s => if 8 ≤ s.val then vHolds c (chunkOf s) (X (pr c)) else sAny c (chunkOf s)

/-- How much a semaphore is raised by. -/
def amt : SemLoc sig → ℕ
  | .reg _ => 1
  | .dma _ => N

variable (X : Dev nD → S1x512x512.Idx → Elt F .bf16)

/-- One duty on each of the nine cells, in its first round. -/
def talkRd : Rounds.Schedule (GSem nD τ sig) Unit 𝕄 where
  duties g r := if r = 0 ∧ g.1.2 = .tc ∧ IsTalk g.2 then {()} else ∅
  unitless _ := False
  amount g _ _ := amt g.2
  payload g _ _ := pay X g.1.1 g.2
  amount_pos g _ _ _ := by
    cases g.2
    · exact Nat.one_pos
    · exact N_pos

instance pay_storable (c : Dev nD) (sm : SemLoc sig) : BI.Storable (upEmb : UEmb _ 𝕄) (pay X c sm) := by
  cases sm with
  | reg s => show BI.Storable upEmb (barPay c); unfold barPay vAny; infer_instance
  | dma s =>
    show BI.Storable upEmb (if 8 ≤ s.val then vHolds c (chunkOf s) (X (pr c)) else sAny c (chunkOf s))
    unfold vHolds sAny
    split <;> infer_instance
instance talkRd_storable (g : GSem nD τ sig) (r : ℕ) (d : Unit) :
    BI.Storable (upEmb : UEmb _ 𝕄) ((talkRd (F := F) X).payload g r d) := pay_storable X g.1.1 g.2

section Tables

variable (c : Dev nD) (k : Fin 4)

theorem talk_bar : IsTalk (.reg bSem) := rfl
theorem talk_s : IsTalk (.dma (sSem k)) := by show 4 ≤ (sSem k).val; rw [sSem_val]; omega
theorem talk_v : IsTalk (.dma (vSem k)) := by show 4 ≤ (vSem k).val; rw [vSem_val]; omega

theorem duties_talk {sm : SemLoc sig} (h : IsTalk sm) : (talkRd X).duties ((c : Thread nD τ), sm) 0 = {()} :=
  if_pos ⟨rfl, rfl, h⟩
theorem duty_mem {sm : SemLoc sig} (h : IsTalk sm) : () ∈ (talkRd X).duties ((c : Thread nD τ), sm) 0 := by
  rw [duties_talk X c h]; exact Finset.mem_singleton_self _
theorem duties_later (g : GSem nD τ sig) : ∀ r, 1 ≤ r → (talkRd X).duties g r = ∅ :=
  fun r hr => if_neg fun h => by omega

theorem expect_talk {sm : SemLoc sig} (h : IsTalk sm) : (talkRd X).expect ((c : Thread nD τ), sm) 0 = amt sm := by
  unfold Schedule.expect Schedule.amountOf; rw [duties_talk X c h, Finset.sum_singleton]; rfl

theorem pay_s : pay X c (.dma (sSem k)) = sAny c k := by
  unfold pay; simp only [sSem_val, chunkOf_s]; rw [if_neg (by omega)]
theorem pay_v : pay X c (.dma (vSem k)) = vHolds c k (X (pr c)) := by
  unfold pay; simp only [vSem_val, chunkOf_v]; rw [if_pos (by omega)]

theorem rest_talk {sm : SemLoc sig} (h : IsTalk sm) :
    bigSep ((talkRd X).duties ((c : Thread nD τ), sm) 0 \ ∅) (fun u => (talkRd X).payload ((c : Thread nD τ), sm) 0 u) = pay X c sm := by
  rw [Finset.sdiff_empty, duties_talk X c h, bigSep_singleton]; rfl

end Tables

/-! ## What a device owes, and the levels of the cells -/

/-- The arrivals at the partner of the chunks from `j` on. -/
def left (c : Dev nD) (j : ℕ) : CellTallies nD τ sig Unit :=
  ∑ k : Fin 4, if j ≤ k.val then tallyAt (vCell (pr c) k) () N else 0
/-- What a device owes at launch: the four arrivals, and the barrier's signal. -/
def O₀ (c : Dev nD) : CellTallies nD τ sig Unit := left c 0 + tallyAt (barCell (pr c)) () 1

theorem left_succ (c : Dev nD) (k : Fin 4) : left c k.val = left c (k.val + 1) + tallyAt (vCell (pr c) k) () N := by
  unfold left
  rw [← Finset.sum_erase_add _ _ (Finset.mem_univ k), ← Finset.sum_erase_add (a := k) Finset.univ
    (fun i : Fin 4 => if k.val + 1 ≤ i.val then tallyAt (vCell (pr c) i) () N else 0) (Finset.mem_univ k)]
  rw [if_pos le_rfl, if_neg (by omega), add_zero]
  congr 1
  refine Finset.sum_congr rfl fun i hi => ?_
  have hne : i.val ≠ k.val := fun h => Finset.ne_of_mem_erase hi (Fin.ext h)
  by_cases h : k.val ≤ i.val
  · rw [if_pos h, if_pos (by omega)]
  · rw [if_neg h, if_neg (by omega)]
theorem left_four (c : Dev nD) : left c 4 = 0 :=
  Finset.sum_eq_zero fun k _ => if_neg (by omega)

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barriers before arrivals; every other cell before both. -/
def level : SemLoc sig → ℕ
  | .reg _ => 1
  | .dma s => if 8 ≤ s.val then 2 else 0
def lv (g : GSem nD τ sig) (_ : Unit) : ℕ := level g.2
theorem level_v (k : Fin 4) : level (.dma (vSem k)) = 2 := by
  unfold level; simp only [vSem_val]; rw [if_pos (by omega)]

/-- What `left` owes is owed to the partner's arrival cells. -/
theorem left_pos {c : Dev nD} {j : ℕ} {g : GSem nD τ sig} {u : Unit} (h : 0 < left c j g u) : ∃ k, g = vCell (pr c) k := by
  by_contra hn
  refine absurd h (Nat.not_lt.mpr (Nat.le_of_eq ?_))
  unfold left
  rw [Finset.sum_apply, Finsupp.finset_sum_apply]
  refine Finset.sum_eq_zero fun k _ => ?_
  split
  · rw [tallyAt_apply, if_neg fun e => hn ⟨k, e.1⟩]
  · rfl

theorem mayWait_bar (c : Dev nD) : (levAts L lv : sProp 𝕄) ⊢ MayWait (c : Thread nD τ) (.reg bSem) () (left c 0) :=
  MayOwe.of_cut (L := L) (lev := lv) 1 (fun p hp => by rw [Finset.mem_singleton.mp hp, L_tc]; exact Finset.mem_singleton_self _)
    (fun g u hg => by obtain ⟨k, rfl⟩ := left_pos hg; rw [L_tc]; exact Finset.mem_singleton_self _)
    (fun p hp => by rw [Finset.mem_singleton.mp hp]; exact le_rfl)
    (fun g u hg => by obtain ⟨k, rfl⟩ := left_pos hg; show 1 < level _; rw [level_v]; decide)

end Cert.KernelIdeal.Talk

end
-- ==== Proof.Block.lean ====
/- What the kernel stores: 128 rows of the result from the two partials' chunks, and the whole result row by row. -/
module

public import proofs.«01_k».proof.Proof.Cells
public import Idealize.ShloMosaic.Lib.ValueIdxCore
public import Idealize.ShloMosaic.Lib.WritesUnit
public import Idealize.ShloMosaic.Lib.Pipeline.Value

@[expose] public section

noncomputable section

namespace Cert.KernelIdeal.Talk

open Idealize.ShloMosaic Idealize.ShloMosaic.TcCoe Idealize.ShloMosaic.ValueIdx
open Cert.KernelIdeal Cert.KernelIdeal.Gen

variable {F : FTy → Type} [FloatOps F]

/-- The sum of the two partials' rows and the residual's. -/
def sumRows (a b r : FVec F S128x512 .bf16) : FVec F S128x512 .f32 :=
  addf (addf (extf .f32 a bitsLt_bf16_f32) (extf .f32 b bitsLt_bf16_f32))
    (extf .f32 (shapeCast S128x512 r shapeCasts_S128x512_S128x512) bitsLt_bf16_f32)

/-- One over the root of the mean square of each row, kept away from zero. -/
def scaleRows (y : FVec F S128x512 .f32) : FVec F S128x1 .f32 :=
  rsqrt (addf
    (divf (shapeCast S128x1 (multiReduction .add [1] S128 (mulf y y) 0x00000000#32 reduces_S128x512_S128 (.inl rfl) rfl) shapeCasts_S128_S128x1)
      (broadcast S128x1 (Scalar.ofBits .f32 0x44000000#32)))
    (broadcast S128x1 (Scalar.ofBits .f32 0x358637BD#32)))

/-- The rows normalised and scaled: what one step stores. -/
def normRows (a b r : FVec F S128x512 .bf16) (g : FVec F S1x512 .bf16) : FVec F S128x512 .f32 :=
  mulf (mulf (sumRows a b r) (broadcastTo S128x512 (scaleRows (sumRows a b r)) broadcasts_S128x1_S128x512))
    (broadcastTo S128x512 (extf .f32 (shapeCast S1x512 g shapeCasts_S1x512_S1x512) bitsLt_bf16_f32) broadcasts_S1x512_S128x512)

/-- What the step stores, from what it loads. -/
theorem stored_eq (a b : Vec F S1x128x512 .bf16) (r : Vec F S128x512 .bf16) (g : Vec F S1x512 .bf16) :
    k0_pay15 a b r g = normRows (shapeCast S128x512 a shapeCasts_S1x128x512_S128x512) (shapeCast S128x512 b shapeCasts_S1x128x512_S128x512) r g := rfl

/-- Rows `128 k … 128 k + 127` of a residual. -/
def rows (k : Fin 4) (r : S512x512.Idx → Elt F .bf16) : FVec F S128x512 .bf16 :=
  rM.view.readAt (Elt F) (rowRect k).toLoadRect r
/-- The scale as the step loads it. -/
def scale (g : S1x512.Idx → Elt F .bf16) : FVec F S1x512 .bf16 := gM.view.readAt (Elt F) scaleRect.toLoadRect g

/-- The chunk of a result row. -/
def chunkRow (i : S512x512.Idx) : Fin 4 := ⟨(i 0).val / 128, by have : (i 0).val < 512 := (i 0).isLt; omega⟩
/-- An index of the result within its chunk. -/
def inChunk (i : S512x512.Idx) : S128x512.Idx :=
  ix2 (n0 := 128) (n1 := 512) ⟨(i 0).val % 128, Nat.mod_lt _ (by decide)⟩ (i 1)

/-- The result of a device whose partial is `x`, whose partner's is `x'`, with residual `r` and scale `g`. -/
def result (x x' : S1x512x512.Idx → Elt F .bf16) (r : S512x512.Idx → Elt F .bf16) (g : S1x512.Idx → Elt F .bf16) :
    S512x512.Idx → Elt F .f32 :=
  fun i => normRows (chunk (chunkRow i) x) (chunk (chunkRow i) x') (rows (chunkRow i) r) (scale g) (inChunk i)

/-- The first `j` chunks of a buffer are `Y`'s. -/
def Upto (j : ℕ) (Y f : S512x512.Idx → Elt F .f32) : Prop := ∀ i : S512x512.Idx, (i 0).val < 128 * j → f i = Y i

/-- The result's whole view reads the buffer itself. -/
theorem out_read (f : S512x512.Idx → Elt F .f32) (i : S512x512.Idx) : oM.view.read (Elt F) f i = f i := rfl

/-- Storing chunk `k` of `Y` where the chunks before it are `Y`'s leaves one more. -/
theorem upto_store (k : Fin 4) (Y f : S512x512.Idx → Elt F .f32) (w : (rowRect k).shape.Idx → Elt F .f32)
    (hf : Upto k.val Y f) (hw : ∀ i, chunkRow i = k → w (inChunk i) = Y i) :
    Upto (k.val + 1) Y ((oM.access (rowRect k)).write (Elt F) f w Finset.univ) := fun i hi => by
  show oM.view.writes (Elt F) f [⟨rowRect k, w⟩] i = Y i
  refine (out_read _ i).symm.trans ?_
  by_cases h : (i 0).val < 128 * k.val
  · have h1 := View.read_writes_cons_rows_of_not_mem (Val := Elt F) (d := ![512, 512]) (off := ![128 * k.val, 0]) (size := ![128, 512])
      (o := 128 * k.val) (W := 128) oM.view f (inRows k) w [] i rfl rfl (.inl h)
    exact h1.trans (hf i h)
  · have hk : chunkRow i = k := Fin.ext (by show (i 0).val / 128 = k.val; omega)
    have h1 := View.read_writes_cons_rows_of_mem (Val := Elt F) (d := ![512, 512]) (off := ![128 * k.val, 0]) (size := ![128, 512])
      (o := 128 * k.val) oM.view f (inRows k) w [] i (inChunk i) rfl
      (by show (i 0).val = 128 * k.val + (i 0).val % 128; omega) rfl
    exact h1.trans (hw i hk)

/-- All four chunks are the whole buffer. -/
theorem upto_four (Y f : S512x512.Idx → Elt F .f32) (h : Upto 4 Y f) : f = Y :=
  funext fun i => h i (by have : (i 0).val < 512 := (i 0).isLt; omega)

/-! ## The slots of the scratch buffers -/

/-- After chunk `k` is stored in a slot of the send buffer, the slot reads as the chunk. -/
theorem filled_read (k : Fin 4) (x : S1x512x512.Idx → Elt F .bf16) (f : sM.view.ty.Contents (Elt F)) :
    (sSlot k).view.read (Elt F) ((sM.access (slotRect k)).write (Elt F) f
      (k0_pay1 (pM.view.readAt (Elt F) (partRect k).toLoadRect x)) Finset.univ) = chunk k x := by
  show shapeCast S128x512 ((sM.access (slotRect k)).read (Elt F) ((sM.access (slotRect k)).write (Elt F) f _ Finset.univ))
    shapeCasts_S1x128x512_S128x512 = _
  rw [View.read_write_univ]
  unfold k0_pay1 chunk
  exact shapeCast_shapeCast _ _ _

/-- What a step loads of a slot of the receive buffer is what the slot reads as. -/
theorem slot_read (k : Fin 4) (f : vM.view.ty.Contents (Elt F)) :
    shapeCast S128x512 (vM.view.readAt (Elt F) (slotRect k).toLoadRect f) shapeCasts_S1x128x512_S128x512
      = (vSlot k).view.read (Elt F) f := rfl

end Cert.KernelIdeal.Talk

end
-- ==== Proof.Slots.lean ====
/- A scratch buffer is its four slots. -/
module

public import proofs.«01_k».proof.Proof.Block
public import proofs.«01_k».proof.Proof.Gen.KernelIdeal.Launch

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-- A whole buffer of device `c`. -/
abbrev held (c : Dev nD) (b : Ref sig .tc) (f : Buf (Elt F) ((c : Thread nD τ).loc b)) : sProp 𝕄 :=
  ((c : Thread nD τ).loc b) ↦{fullShare} f

/-- The elements of slot `k`. -/
def slotSet (k : Fin 4) : Finset S4x128x512.Idx := (slotRect k).set

theorem mem_slot (k : Fin 4) (i : S4x128x512.Idx) : i ∈ slotSet k ↔ (i 0).val = k.val := by
  unfold slotSet slotRect
  rw [Rect.mem_set_unit]
  constructor
  · intro h
    have h0 := h 0
    have e1 : (![k.val, 0, 0] : Fin 3 → ℕ) 0 = k.val := rfl
    have e2 : S1x128x512.size 0 = 1 := rfl
    change k.val ≤ (i 0).val ∧ (i 0).val < k.val + 1 at h0
    omega
  · intro h a
    have h1 : (i 1).val < 128 := (i 1).isLt
    have h2 : (i 2).val < 512 := (i 2).isLt
    match a with
    | ⟨0, _⟩ => show k.val ≤ (i 0).val ∧ (i 0).val < k.val + 1; omega
    | ⟨1, _⟩ => show 0 ≤ (i 1).val ∧ (i 1).val < 0 + 128; omega
    | ⟨2, _⟩ => show 0 ≤ (i 2).val ∧ (i 2).val < 0 + 512; omega

theorem sSlot_set (k : Fin 4) : (sSlot k).view.set = slotSet k :=
  ((sM.view.slice (slotRect k)).set_reshape _).trans (View.set_slice_whole cc0_scratch0 (slotRect k))
theorem vSlot_set (k : Fin 4) : (vSlot k).view.set = slotSet k :=
  ((vM.view.slice (slotRect k)).set_reshape _).trans (View.set_slice_whole cc0_scratch1 (slotRect k))

theorem slots_disjoint : ∀ k ∈ (Finset.univ : Finset (Fin 4)), ∀ k' ∈ (Finset.univ : Finset (Fin 4)), k ≠ k' →
    Disjoint (slotSet k) (slotSet k') := fun k _ k' _ hne =>
  Finset.disjoint_left.mpr fun i hi hi' => hne (Fin.ext (((mem_slot k i).mp hi).symm.trans ((mem_slot k' i).mp hi')))

theorem slots_cover : (Finset.univ : Finset (Fin 4)).biUnion slotSet = Finset.univ :=
  Finset.eq_univ_iff_forall.mpr fun i => Finset.mem_biUnion.mpr
    ⟨⟨(i 0).val, (i 0).isLt⟩, Finset.mem_univ _, (mem_slot _ i).mpr rfl⟩

section Whole

variable (c : Dev nD) (b : Ref sig .tc) (K : Fin 4 → Finset (Idx ((c : Thread nD τ).loc b)))
  (hd : ∀ k ∈ (Finset.univ : Finset (Fin 4)), ∀ k' ∈ (Finset.univ : Finset (Fin 4)), k ≠ k' → Disjoint (K k) (K k'))
  (hc : (Finset.univ : Finset (Fin 4)).biUnion K = Finset.univ)

include hd hc

/-- A buffer of four disjoint parts split into them, -/
theorem split_slots : (iprop(∃ f, held c b f) : sProp 𝕄)
    ⊢ bigSep Finset.univ fun k : Fin 4 => iprop(∃ f, ((c : Thread nD τ).loc b) ↦[K k]{fullShare} f) := by
  iintro ⟨%f, H⟩
  have h : (held c b f : sProp 𝕄) = bigSep Finset.univ fun k : Fin 4 => ((c : Thread nD τ).loc b) ↦[K k]{fullShare} f := by
    unfold held; rw [← pointsTo_biUnion Finset.univ K hd, hc]
  rw [bigSep_W0] at h
  ihave H' := (Entails.of_eq h) $$ H
  icases H' with ⟨H0, H1, H2, H3⟩
  rw [bigSep_W0]
  isplitl [H0]; · iexists f; iexact H0
  isplitl [H1]; · iexists f; iexact H1
  isplitl [H2]; · iexists f; iexact H2
  iexists f; iexact H3

/-- and rejoined, whatever each part holds. -/
theorem join_slots : (bigSep Finset.univ fun k : Fin 4 => iprop(∃ f, ((c : Thread nD τ).loc b) ↦[K k]{fullShare} f))
      ⊢ (iprop(∃ f, held c b f) : sProp 𝕄) := by
  rw [bigSep_W0]
  iintro ⟨⟨%f0, H0⟩, ⟨%f1, H1⟩, ⟨%f2, H2⟩, ⟨%f3, H3⟩⟩
  have h := pointsTo_biUnion_join (Ix := Unit) (Name := ℕ) (U := UU) (Lvl := ℕ) (ℓ := (c : Thread nD τ).loc b) (q := fullShare)
    Finset.univ K ![f0, f1, f2, f3] f0 hd
  rw [hc, bigSep_W0] at h
  ihave Hg := h $$ [H0 H1 H2 H3]
  · isplitl [H0]; · iexact H0
    isplitl [H1]; · iexact H1
    isplitl [H2]; · iexact H2
    iexact H3
  icases Hg with ⟨%g, -, Hg⟩
  iexists g; iexact Hg

end Whole

theorem sAny_eq (c : Dev nD) (k : Fin 4) :
    (sAny c k : sProp 𝕄) = iprop(∃ f, ((c : Thread nD τ).loc cc0_scratch0) ↦[slotSet k]{fullShare} f) := by
  unfold sAny sPts; rw [sSlot_set]
theorem vAny_eq (c : Dev nD) (k : Fin 4) :
    (vAny c k : sProp 𝕄) = iprop(∃ f, ((c : Thread nD τ).loc cc0_scratch1) ↦[slotSet k]{fullShare} f) := by
  unfold vAny vPts; rw [vSlot_set]

theorem split_send (c : Dev nD) : (iprop(∃ f, held c cc0_scratch0 f) : sProp 𝕄) ⊢ bigSep Finset.univ (sAny c) := by
  rw [show (sAny c : Fin 4 → sProp 𝕄) = _ from funext (sAny_eq c)]
  exact split_slots c cc0_scratch0 slotSet slots_disjoint slots_cover
theorem join_send (c : Dev nD) : (bigSep Finset.univ (sAny c) : sProp 𝕄) ⊢ iprop(∃ f, held c cc0_scratch0 f) := by
  rw [show (sAny c : Fin 4 → sProp 𝕄) = _ from funext (sAny_eq c)]
  exact join_slots c cc0_scratch0 slotSet slots_disjoint slots_cover
theorem split_recv (c : Dev nD) : (iprop(∃ f, held c cc0_scratch1 f) : sProp 𝕄) ⊢ bigSep Finset.univ (vAny c) := by
  rw [show (vAny c : Fin 4 → sProp 𝕄) = _ from funext (vAny_eq c)]
  exact split_slots c cc0_scratch1 slotSet slots_disjoint slots_cover
theorem join_recv (c : Dev nD) : (bigSep Finset.univ (vAny c) : sProp 𝕄) ⊢ iprop(∃ f, held c cc0_scratch1 f) := by
  rw [show (vAny c : Fin 4 → sProp 𝕄) = _ from funext (vAny_eq c)]
  exact join_slots c cc0_scratch1 slotSet slots_disjoint slots_cover

end Cert.KernelIdeal.Talk

end
-- ==== Proof.Body.lean ====
/- The kernel's steps and its body, on any device. -/
module

public import proofs.«01_k».proof.Proof.Slots

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- What must be shown of a program run on device `c`. -/
abbrev runs (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- A step for each chunk in order: `I j` is carried, having done `j` of them, and each turns its `A k` into `B k`. -/
theorem runs_four (c : Dev nD) (I : ℕ → sProp 𝕄) (A B : Fin 4 → sProp 𝕄) (g : Fin 4 → Prog (TpuEff nD τ sig (Elt F) Λ₀ .tc) PUnit)
    (h : ∀ (k : Fin 4) (Q : PUnit → sProp 𝕄), iprop((I k.val ∗ A k) ∗ ((I (k.val + 1) ∗ B k) -∗ Q ⟨⟩)) ⊢ runs c (g k) Q)
    (Q : PUnit → sProp 𝕄) :
    iprop((I 0 ∗ bigSep Finset.univ A) ∗ ((I 4 ∗ bigSep Finset.univ B) -∗ Q ⟨⟩)) ⊢ runs c (four g) Q := by
  have h0 : ∀ Q : PUnit → sProp 𝕄, iprop((I 0 ∗ A 0) ∗ ((I 1 ∗ B 0) -∗ Q ⟨⟩)) ⊢ runs c (g 0) Q := h 0
  have h1 : ∀ Q : PUnit → sProp 𝕄, iprop((I 1 ∗ A 1) ∗ ((I 2 ∗ B 1) -∗ Q ⟨⟩)) ⊢ runs c (g 1) Q := h 1
  have h2 : ∀ Q : PUnit → sProp 𝕄, iprop((I 2 ∗ A 2) ∗ ((I 3 ∗ B 2) -∗ Q ⟨⟩)) ⊢ runs c (g 2) Q := h 2
  have h3 : ∀ Q : PUnit → sProp 𝕄, iprop((I 3 ∗ A 3) ∗ ((I 4 ∗ B 3) -∗ Q ⟨⟩)) ⊢ runs c (g 3) Q := h 3
  unfold four runs
  rw [wp_bind, bigSep_W0, bigSep_W0]
  iintro ⟨⟨HI, A0, A1, A2, A3⟩, Hk⟩
  iapply (h0 _)
  isplitl [HI A0]; · isplitl [HI]; · iexact HI
                     iexact A0
  iintro ⟨HI, B0⟩
  rw [wp_bind]
  iapply (h1 _)
  isplitl [HI A1]; · isplitl [HI]; · iexact HI
                     iexact A1
  iintro ⟨HI, B1⟩
  rw [wp_bind]
  iapply (h2 _)
  isplitl [HI A2]; · isplitl [HI]; · iexact HI
                     iexact A2
  iintro ⟨HI, B2⟩
  iapply (h3 _)
  isplitl [HI A3]; · isplitl [HI]; · iexact HI
                     iexact A3
  iintro ⟨HI, B3⟩
  iapply Hk
  isplitl [HI]; · iexact HI
  isplitl [B0]; · iexact B0
  isplitl [B1]; · iexact B1
  isplitl [B2]; · iexact B2
  iexact B3

variable (X : Dev nD → S1x512x512.Idx → Elt F .bf16) (c : Dev nD)

theorem slot_sub_s (k : Fin 4) : sM.view.setOn (slotRect k).set ⊆ (sSlot k).view.set := by
  rw [sSlot_set]; exact fun i hi => by rw [View.setOn, Finset.mem_map] at hi; obtain ⟨j, hj, rfl⟩ := hi; exact hj
theorem slot_sub_v (k : Fin 4) : vM.view.setOn (slotRect k).set ⊆ (vSlot k).view.set := by
  rw [vSlot_set]; exact fun i hi => by rw [View.setOn, Finset.mem_map] at hi; obtain ⟨j, hj, rfl⟩ := hi; exact hj
theorem slot_store_s (k : Fin 4) : (sM.access (slotRect k)).setOn Finset.univ ⊆ (sSlot k).view.set := by
  rw [View.setOn_univ, sSlot_set]; exact (View.set_slice_whole cc0_scratch0 (slotRect k)).subset

/-- Chunk `k` of the partial is put in its slot of the send buffer. -/
theorem run_fill (x : S1x512x512.Idx → Elt F .bf16) (k : Fin 4) (Q : PUnit → sProp 𝕄) :
    iprop((held c cc0_stg0_0 x ∗ sAny c k) ∗ ((held c cc0_stg0_0 x ∗ sHolds c k x) -∗ Q ⟨⟩)) ⊢ runs c (fill k) Q := by
  unfold fill runs
  simp only [Prog.lift, Prog.bind_op, Prog.bind_ret, Prog.pure_eq_ret]
  unfold sAny
  iintro ⟨⟨Hx, ⟨%f, Hs⟩⟩, Hk⟩
  iapply (wp_load 𝒱₀ (c : Thread nD τ) none Set.univ (m := pM) (S := Finset.univ) (q := fullShare) (f := x) (Finset.subset_univ _)) $$ [Hx]
  · iexact Hx
  iintro Hx
  iapply (wp_load 𝒱₀ (c : Thread nD τ) none Set.univ (m := sM) (S := (sSlot k).view.set) (q := fullShare) (f := f) (slot_sub_s k)) $$ [Hs]
  · iexact Hs
  iintro Hs
  iapply (wp_store 𝒱₀ (c : Thread nD τ) none Set.univ (m := sM) (r := slotRect k) (S := (sSlot k).view.set) (f := f) (slot_store_s k)) $$ [Hs]
  · iexact Hs
  iintro Hs
  rw [wp_ret]
  imodintro
  iapply Hk
  isplitl [Hx]; · iexact Hx
  unfold sHolds
  iexists _
  isplitr
  · ipureintro; exact filled_read k x f
  iexact Hs

/-! ## The copies -/

variable (K : GSem nD τ sig → ℕ)

/-- The invariants of the cells chunk `k` of device `c` uses: its departure's, its arrival's, and the partner's arrival's. -/
def invC (k : Fin 4) : sProp 𝕄 :=
  iprop(cellInv ER (talkRd X) (K (sCell c k)) (sCell c k) ∗ cellInv ER (talkRd X) (K (vCell c k)) (vCell c k)
    ∗ cellInv ER (talkRd X) (K (vCell (pr c) k)) (vCell (pr c) k))
instance invC_persistent (k : Fin 4) : BI.Persistent (invC X c K k) := by unfold invC; infer_instance

/-- The right to raise the two semaphores of chunk `k`'s copy. -/
def tokC (k : Fin 4) : sProp 𝕄 := iprop(dutyTok ER (sCell c k) 0 () ∗ dutyTok ER (vCell (pr c) k) 0 ())

/-- What starting the copy of chunk `k` takes. -/
def sendPre (k : Fin 4) : sProp 𝕄 :=
  iprop(invC X c K k ∗ sHolds c k (X c) ∗ (vAny (pr c) k ∗ reached ER (vCell (pr c) k) 0) ∗ reached ER (sCell c k) 0 ∗ tokC c k)

/-- What lands in the partner's slot is this device's chunk. -/
theorem landed_pay (k : Fin 4) (f : Buf (Elt F) ((sSlot k).view.loc (c : Thread nD τ)))
    (hf : (sSlot k).view.read (Elt F) f = chunk k (X c)) (fd : Buf (Elt F) ((vSlot k).view.loc ((pr c : Dev nD) : Thread nD τ))) :
    vPts (pr c) k ((vSlot k).view.write (Elt F) fd ((sSlot k).view.read (Elt F) f) Finset.univ)
      ⊢ (talkRd X).payload (vCell (pr c) k) 0 () := by
  show _ ⊢ pay X (pr c) (.dma (vSem k))
  rw [pay_v, pr_pr]
  unfold vHolds
  iintro H
  iexists ((vSlot k).view.write (Elt F) fd ((sSlot k).view.read (Elt F) f) Finset.univ)
  isplitr
  · ipureintro; exact (View.read_write_univ _ _).trans hf
  iexact H

/-- Starting chunk `k`'s copy pays off what is owed to the partner for it. -/
theorem run_send (W : Waits sig Unit) (k : Fin 4) (Q : PUnit → sProp 𝕄) :
    iprop((owes (c : Thread nD τ) (left c k.val) W ∗ sendPre X c K k)
        ∗ ((owes (c : Thread nD τ) (left c (k.val + 1)) W ∗ cred (tallyAt (sCell c k) () N)) -∗ Q ⟨⟩))
      ⊢ runs c (send (pr c) k) Q := by
  unfold send runs
  simp only [Prog.lift, Prog.bind_op, Prog.bind_ret, Prog.pure_eq_ret]
  unfold sendPre invC sHolds tokC vAny
  iintro ⟨⟨HO, ⟨#HIs, #HIv, #HIp⟩, ⟨%f, %hf, Hs⟩, ⟨⟨%fd, Hd⟩, #Hrp⟩, #Hrs, HtS, HtP⟩, Hk⟩
  iapply (Rounds.wp_send_pointsTo 𝒱₀ ER (talkRd X) (c : Thread nD τ) none (c' := ((pr c : Dev nD) : Thread nD τ)) (src := sSlot k) (dst := vSlot k)
      (sS := .dma (sSem k)) (sem := .dma (vSem k)) (q := fullShare) (fs := f) (κ₁ := K (sCell c k)) (κ₂ := K (vCell (pr c) k))
      (r₁ := 0) (r₂ := 0) (d₁ := ()) (d₂ := ()) (fd := fd)
      (duty_mem X c (talk_s k)) (duty_mem X (pr c) (talk_v k)) () () N rfl rfl rfl (left c (k.val + 1)) (left_succ c k) (W := W)
      (by show _ ⊢ pay X c (.dma (sSem k)); rw [pay_s]; unfold sAny; iintro H; iexists f; iexact H)
      (landed_pay X c k f hf fd)) $$ [HO Hs Hd HtS HtP]
  · isplitr; · iexact HIs
    isplitr; · iexact HIp
    isplitl [Hs]; · iexact Hs
    isplitl [Hd]; · iexact Hd
    isplitl [HO]; · iexact HO
    isplitl [HtS]; · iexact HtS
    isplitr; · iexact Hrs
    isplitl [HtP]; · iexact HtP
    iexact Hrp
  iintro ⟨Hc, HO⟩
  rw [wp_ret]
  imodintro
  iapply Hk
  isplitl [HO]; · iexact HO
  iexact Hc

/-- A cell whose one round is over gives its counter back at zero. -/
theorem close (κ : ℕ) (g : GSem nD τ sig) :
    iprop(cellInv ER (talkRd X) κ g ∗ atPos ER g (0 + 1) ∅ 0) ⊢ (|={Set.univ}=> semVal g 0 : sProp 𝕄) :=
  Rounds.cell_close ER (talkRd X) (Set.mem_univ κ) id (duties_later X g)

/-- A core that owes nothing, whatever it has waited for. -/
def free : sProp 𝕄 := iprop(∃ W, owes (c : Thread nD τ) (0 : CellTallies nD τ sig Unit) W)

/-- Waiting on a cell of this device for its one round: what is paid there comes. -/
theorem run_wait {sm : SemLoc sig} (h : IsTalk sm) (w : TpuEff nD τ sig (Elt F) Λ₀ .tc PUnit)
    (hw : ∀ Φ : PUnit → sProp 𝕄, wpE (defs₀ (F := F)) 𝒱₀ (c : Thread nD τ) none Set.univ w Φ = waitSpec (c : Thread nD τ) Set.univ sm (amt sm) Φ)
    (κ : ℕ) (O : CellTallies nD τ sig Unit) (W : Waits sig Unit) (k : PUnit → Prog (TpuEff nD τ sig (Elt F) Λ₀ .tc) PUnit) (Q : PUnit → sProp 𝕄) :
    iprop(cellInv ER (talkRd X) κ ((c : Thread nD τ), sm) ∗ cred (tallyAt ((c : Thread nD τ), sm) () (amt sm)) ∗ owes (c : Thread nD τ) O W
        ∗ MayWait (c : Thread nD τ) sm () O ∗ atPos ER ((c : Thread nD τ), sm) 0 ∅ 0)
      ⊢ iprop(((owes (c : Thread nD τ) O (insert (sm, ()) W) ∗ atPos ER ((c : Thread nD τ), sm) (0 + 1) ∅ 0 ∗ pay X c sm) -∗ runs c (k ⟨⟩) Q)
          -∗ runs c (.op w k) Q) := by
  iintro Hin Hk
  iapply (Rounds.wp_wait_rest_token 𝒱₀ ER (talkRd X) (c : Thread nD τ) none (κ := κ) hw (Set.mem_univ _) () (O := O) (W := W) (R := 0) (m := 0) (T := ∅)
      ((Nat.zero_add _).trans (expect_talk X c h).symm)) $$ [Hin]
  · iexact Hin
  iintro ⟨HO, Hat, -, Hpay⟩
  iapply Hk
  isplitl [HO]; · iexact HO
  isplitl [Hat]; · iexact Hat
  iapply (Entails.of_eq (rest_talk X c h)) $$ Hpay

/-- What waiting for chunk `k`'s arrival, or departure, takes. -/
def takePre (k : Fin 4) : sProp 𝕄 := iprop(invC X c K k ∗ cred (tallyAt (vCell c k) () N) ∗ atPos ER (vCell c k) 0 ∅ 0)
def drainPre (k : Fin 4) : sProp 𝕄 := iprop(invC X c K k ∗ cred (tallyAt (sCell c k) () N) ∗ atPos ER (sCell c k) 0 ∅ 0)

/-- Chunk `k` has left: its slot of the send buffer comes back, and the semaphore's counter. -/
theorem run_drain (k : Fin 4) (Q : PUnit → sProp 𝕄) :
    iprop((free c ∗ drainPre X c K k) ∗ ((free c ∗ (sAny c k ∗ semVal (sCell c k) 0)) -∗ Q ⟨⟩)) ⊢ runs c (drain k) Q := by
  unfold drain runs
  simp only [Prog.lift, Prog.bind_op, Prog.bind_ret, Prog.pure_eq_ret]
  unfold free drainPre invC
  iintro ⟨⟨⟨%W, HO⟩, ⟨#HIs, #HIv, #HIp⟩, Hc, Hat⟩, Hk⟩
  iapply (run_wait X c (talk_s k) _ (fun Φ => (wpE_waitDma2_eq (src := vSlot k) (dst := sSlot k) 𝒱₀ (c : Thread nD τ) none Set.univ Φ).trans
      (congrArg (fun n => waitSpec (c : Thread nD τ) Set.univ (.dma (sSem k)) n Φ) (credit_s k))) (K (sCell c k)) 0 W _ Q) $$ [Hc HO Hat]
  · isplitr; · iexact HIs
    isplitl [Hc]; · iexact Hc
    isplitl [HO]; · iexact HO
    isplitr; · rw [MayWait_zero]; iempintro
    iexact Hat
  iintro ⟨HO, Hat, Hpay⟩
  ihave Hs := (Entails.of_eq (pay_s X c k)) $$ Hpay
  unfold runs
  rw [wp_ret]
  imod (close X (K (sCell c k)) (sCell c k)) $$ [Hat] with H0
  · isplitr; · iexact HIs
    iexact Hat
  imodintro
  iapply Hk
  isplitl [HO]; · iexists _; iexact HO
  isplitl [Hs]; · iexact Hs
  iexact H0

/-! ## The result -/

variable (r : S512x512.Idx → Elt F .bf16) (g : S1x512.Idx → Elt F .bf16)

/-- The staged buffers while the result is made: the first `j` chunks of it are there. -/
def making (x : S1x512x512.Idx → Elt F .bf16) (Y : S512x512.Idx → Elt F .f32) (j : ℕ) : sProp 𝕄 :=
  iprop(held c cc0_stg0_0 x ∗ held c cc0_stg1_0 r ∗ held c cc0_stg2_0 g
    ∗ (∃ f : S512x512.Idx → Elt F .f32, ⌜Upto j Y f⌝ ∗ held c cc0_stg3_0 f) ∗ free c)

/-- Chunk `k` has arrived: its rows of the result are made, and the slot comes back, and the semaphore's counter. -/
theorem run_take (k : Fin 4) (Q : PUnit → sProp 𝕄) :
    iprop((making c r g (X c) (result (X c) (X (pr c)) r g) k.val ∗ takePre X c K k)
        ∗ ((making c r g (X c) (result (X c) (X (pr c)) r g) (k.val + 1) ∗ (vAny c k ∗ semVal (vCell c k) 0)) -∗ Q ⟨⟩))
      ⊢ runs c (take k) Q := by
  unfold take runs
  simp only [Prog.lift, Prog.bind_op, Prog.bind_ret, Prog.pure_eq_ret]
  unfold making free takePre invC
  iintro ⟨⟨⟨Hx, Hr, Hg, ⟨%f, %hf, Ho⟩, ⟨%W, HO⟩⟩, ⟨#HIs, #HIv, #HIp⟩, Hc, Hat⟩, Hk⟩
  iapply (run_wait X c (talk_v k) _ (fun Φ => (wpE_waitDma2_eq (src := sSlot k) (dst := vSlot k) 𝒱₀ (c : Thread nD τ) none Set.univ Φ).trans
      (congrArg (fun n => waitSpec (c : Thread nD τ) Set.univ (.dma (vSem k)) n Φ) (credit_v k))) (K (vCell c k)) 0 W _ Q) $$ [Hc HO Hat]
  · isplitr; · iexact HIv
    isplitl [Hc]; · iexact Hc
    isplitl [HO]; · iexact HO
    isplitr; · rw [MayWait_zero]; iempintro
    iexact Hat
  iintro ⟨HO, Hat, Hpay⟩
  ihave Hv := (Entails.of_eq (pay_v X c k)) $$ Hpay
  unfold vHolds
  icases Hv with ⟨%fv, %hv, Hv⟩
  iapply (wp_load 𝒱₀ (c : Thread nD τ) none Set.univ (m := pM) (S := Finset.univ) (q := fullShare) (f := X c) (Finset.subset_univ _)) $$ [Hx]
  · iexact Hx
  iintro Hx
  iapply (wp_load 𝒱₀ (c : Thread nD τ) none Set.univ (m := vM) (S := (vSlot k).view.set) (q := fullShare) (f := fv) (slot_sub_v k)) $$ [Hv]
  · iexact Hv
  iintro Hv
  iapply (wp_load 𝒱₀ (c : Thread nD τ) none Set.univ (m := rM) (S := Finset.univ) (q := fullShare) (f := r) (Finset.subset_univ _)) $$ [Hr]
  · iexact Hr
  iintro Hr
  iapply (wp_load 𝒱₀ (c : Thread nD τ) none Set.univ (m := gM) (S := Finset.univ) (q := fullShare) (f := g) (Finset.subset_univ _)) $$ [Hg]
  · iexact Hg
  iintro Hg
  iapply (wp_load 𝒱₀ (c : Thread nD τ) none Set.univ (m := oM) (S := Finset.univ) (q := fullShare) (f := f) (Finset.subset_univ _)) $$ [Ho]
  · iexact Ho
  iintro Ho
  iapply (wp_store 𝒱₀ (c : Thread nD τ) none Set.univ (m := oM) (r := rowRect k) (S := Finset.univ) (f := f) (Finset.subset_univ _)) $$ [Ho]
  · iexact Ho
  iintro Ho
  rw [wp_ret]
  imod (close X (K (vCell c k)) (vCell c k)) $$ [Hat] with H0
  · isplitr; · iexact HIv
    iexact Hat
  imodintro
  iapply Hk
  isplitr [Hv H0]
  · isplitl [Hx]; · iexact Hx
    isplitl [Hr]; · iexact Hr
    isplitl [Hg]; · iexact Hg
    isplitl [Ho]
    · iexists ((oM.access (rowRect k)).write (Elt F) f (k0_pay15 (pM.view.readAt (Elt F) (partRect k).toLoadRect (X c))
        (vM.view.readAt (Elt F) (slotRect k).toLoadRect fv) (rM.view.readAt (Elt F) (rowRect k).toLoadRect r)
        (gM.view.readAt (Elt F) scaleRect.toLoadRect g)) Finset.univ)
      isplitr
      · ipureintro
        refine upto_store k _ f _ hf fun i hi => ?_
        rw [stored_eq, slot_read, hv]
        subst hi
        rfl
      iexact Ho
    iexists _; iexact HO
  isplitl [Hv]; · unfold vAny; iexists fv; iexact Hv
  iexact H0

end Cert.KernelIdeal.Talk

end
-- ==== Proof.Talk.lean ====
/- The kernel's whole body, on any device: from the protocol's state at its start to the result. -/
module

public import proofs.«01_k».proof.Proof.Body

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → S1x512x512.Idx → Elt F .bf16) (c : Dev nD) (K : GSem nD τ sig → ℕ)

/-- The invariants device `c` uses: its barrier's, its partner's, and those of the chunks. -/
def invs : sProp 𝕄 :=
  iprop(cellInv ER (talkRd X) (K (barCell c)) (barCell c) ∗ cellInv ER (talkRd X) (K (barCell (pr c))) (barCell (pr c))
    ∗ bigSep Finset.univ (invC X c K))
instance invs_persistent : BI.Persistent (invs X c K) := by unfold invs; infer_instance

/-- Device `c`'s place at its barrier, its leave to raise its partner's, and its leaves to raise the chunks' semaphores. -/
def base : sProp 𝕄 :=
  iprop(invs X c K ∗ atPos ER (barCell c) 0 ∅ 0 ∗ reached ER (barCell (pr c)) 0 ∗ dutyTok ER (barCell (pr c)) 0 ()
    ∗ bigSep Finset.univ (tokC c))

/-- The two cells of a chunk, at their beginning. -/
def begun (k : Fin 4) : sProp 𝕄 :=
  iprop((atPos ER (sCell c k) 0 ∅ 0 ∗ reached ER (sCell c k) 0) ∗ (atPos ER (vCell c k) 0 ∅ 0 ∗ reached ER (vCell c k) 0))

/-- What device `c` may wait for: the barrier's unit and the arrivals. -/
def awaits : sProp 𝕄 := iprop(cred (tallyAt (barCell c) () 1) ∗ bigSep Finset.univ fun k : Fin 4 => cred (tallyAt (vCell c k) () N))

/-- The counters of the chunks' cells, at zero. -/
def zeros : sProp 𝕄 := bigSep Finset.univ fun k : Fin 4 => iprop(semVal (sCell c k) 0 ∗ semVal (vCell c k) 0)

/-- The scratch buffers. -/
def scratch : sProp 𝕄 := iprop((∃ f, held c cc0_scratch0 f) ∗ (∃ f, held c cc0_scratch1 f))

variable (r : S512x512.Idx → Elt F .bf16) (g : S1x512.Idx → Elt F .bf16)

/-- Before the body, -/
def talkPre (W : Waits sig Unit) : sProp 𝕄 :=
  iprop((base X c K ∗ bigSep Finset.univ (begun c)) ∗ awaits c ∗ levAts L lv ∗ scratch c
    ∗ (held c cc0_stg0_0 (X c) ∗ held c cc0_stg1_0 r ∗ held c cc0_stg2_0 g ∗ (∃ f, held c cc0_stg3_0 f))
    ∗ owes (c : Thread nD τ) (O₀ c) W)

/-- and after it: the result made, every counter at zero, nothing owed. -/
def talkPost : sProp 𝕄 :=
  iprop((semVal (barCell c) 0 ∗ zeros c) ∗ scratch c
    ∗ (held c cc0_stg0_0 (X c) ∗ held c cc0_stg1_0 r ∗ held c cc0_stg2_0 g ∗ held c cc0_stg3_0 (result (X c) (X (pr c)) r g))
    ∗ free c)

/-- What the partner is lent with the barrier's unit. -/
theorem lend : iprop(bigSep Finset.univ (vAny c) ∗ bigSep Finset.univ fun k : Fin 4 => reached ER (vCell c k) 0)
    ⊢ (talkRd X).payload (barCell (pr c)) 0 () := by
  show _ ⊢ barPay (pr c)
  unfold barPay
  rw [pr_pr, bigSep_sep']

/-- The parts of the chunks' beginnings, each for all four chunks. -/
theorem begun_split : (bigSep Finset.univ (begun c) : sProp 𝕄)
    = iprop(((bigSep Finset.univ fun k : Fin 4 => atPos ER (sCell c k) 0 ∅ 0) ∗ bigSep Finset.univ fun k : Fin 4 => reached ER (sCell c k) 0)
      ∗ (bigSep Finset.univ fun k : Fin 4 => atPos ER (vCell c k) 0 ∅ 0) ∗ bigSep Finset.univ fun k : Fin 4 => reached ER (vCell c k) 0) := by
  unfold begun
  rw [bigSep_sep', bigSep_sep', bigSep_sep']

/-- The copies' needs, all four. -/
theorem sends_intro : iprop(bigSep Finset.univ (invC X c K) ∗ bigSep Finset.univ (fun k => sHolds c k (X c))
      ∗ bigSep Finset.univ (fun k : Fin 4 => iprop(vAny (pr c) k ∗ reached ER (vCell (pr c) k) 0))
      ∗ bigSep Finset.univ (fun k : Fin 4 => reached ER (sCell c k) 0) ∗ bigSep Finset.univ (tokC c))
    = (bigSep Finset.univ (sendPre X c K) : sProp 𝕄) := by
  unfold sendPre
  rw [bigSep_sep', bigSep_sep', bigSep_sep', bigSep_sep', bigSep_sep', bigSep_sep']

theorem takes_intro : iprop(bigSep Finset.univ (invC X c K) ∗ bigSep Finset.univ (fun k : Fin 4 => cred (tallyAt (vCell c k) () N))
      ∗ bigSep Finset.univ (fun k : Fin 4 => atPos ER (vCell c k) 0 ∅ 0))
    = (bigSep Finset.univ (takePre X c K) : sProp 𝕄) := by
  unfold takePre
  rw [bigSep_sep', bigSep_sep']

theorem drains_intro : iprop(bigSep Finset.univ (invC X c K) ∗ bigSep Finset.univ (fun k : Fin 4 => cred (tallyAt (sCell c k) () N))
      ∗ bigSep Finset.univ (fun k : Fin 4 => atPos ER (sCell c k) 0 ∅ 0))
    = (bigSep Finset.univ (drainPre X c K) : sProp 𝕄) := by
  unfold drainPre
  rw [bigSep_sep', bigSep_sep']

/-- The four copies started: nothing more is owed. -/
theorem run_sends (W : Waits sig Unit) (Q : PUnit → sProp 𝕄) :
    iprop((owes (c : Thread nD τ) (left c 0) W ∗ bigSep Finset.univ (sendPre X c K))
        ∗ ((owes (c : Thread nD τ) (0 : CellTallies nD τ sig Unit) W ∗ bigSep Finset.univ fun k : Fin 4 => cred (tallyAt (sCell c k) () N)) -∗ Q ⟨⟩))
      ⊢ runs c (four fun k => send (F := F) (pr c) k) Q := by
  rw [← left_four c]
  exact runs_four c (fun j => owes (c : Thread nD τ) (left c j) W) (sendPre X c K) (fun k => cred (tallyAt (sCell c k) () N))
    (fun k => send (pr c) k) (fun k Q => run_send X c K W k Q) Q

theorem talkRun (W : Waits sig Unit) (Q : PUnit → sProp 𝕄) :
    iprop(talkPre X c K r g W ∗ (talkPost X c r g -∗ Q ⟨⟩)) ⊢ runs c (steps (F := F)) Q := by
  unfold steps runs
  simp only [Prog.lift, Prog.bind_op, Prog.bind_ret, wp_deviceId, semSignalWord, semWaitWord]
  rw [signalTo_eq, show (fun k => send (F := F) (sendTo c k) k) = fun k => send (pr c) k from funext fun k => by rw [sendTo_eq]]
  unfold talkPre base invs awaits scratch
  rw [begun_split]
  iintro ⟨⟨⟨⟨⟨#HIb, #HIp, #HI⟩, HatB, #HrP, HtP, Htok⟩, ⟨⟨HatS, #HrS⟩, HatV, #HrV⟩⟩, ⟨HcB, HcV⟩, #Hlev, ⟨Hs, Hv⟩, ⟨Hx, Hr, Hg, Ho⟩, HO⟩, Hk⟩
  ihave Hs := (split_send c) $$ Hs
  ihave Hv := (split_recv c) $$ Hv
  -- the send buffer filled
  rw [wp_bind]
  iapply (runs_four c (fun _ => held c cc0_stg0_0 (X c)) (sAny c) (fun k => sHolds c k (X c)) fill (run_fill c (X c)))
  isplitl [Hx Hs]
  · isplitl [Hx]; · iexact Hx
    iexact Hs
  iintro ⟨Hx, Hs⟩
  -- the partner's barrier raised, the receive slots lent
  iapply (Rounds.wp_signal 𝒱₀ ER (talkRd X) (c : Thread nD τ) none (dst := ((pr c : Dev nD) : Thread nD τ)) (sem := bSem) (r := 0) (d := ()) (κ := K (barCell (pr c)))
      (duty_mem X (pr c) talk_bar) rfl () (left c 0) rfl) $$ [HO HtP Hv]
  · isplitr; · iexact HIp
    isplitl [HO]; · iexact HO
    isplitl [HtP]; · iexact HtP
    isplitl [Hv]
    · iapply (lend X c)
      isplitl [Hv]; · iexact Hv
      iexact HrV
    · iexact HrP
  iintro HO
  -- the own barrier waited for: the partner's receive slots come
  iapply (run_wait X c talk_bar _ (fun Φ => wpE_semWait_eq 𝒱₀ (c : Thread nD τ) none Set.univ Φ) (K (barCell c)) (left c 0) W _ Q) $$ [HcB HO HatB]
  · isplitr; · iexact HIb
    isplitl [HcB]; · iexact HcB
    isplitl [HO]; · iexact HO
    isplitr; · iapply (mayWait_bar c); iexact Hlev
    iexact HatB
  iintro ⟨HO, HatB, Hpay⟩
  ihave Hpay := (Entails.of_eq (show pay X c (.reg bSem) = bigSep Finset.univ fun k : Fin 4 => iprop(vAny (pr c) k ∗ reached ER (vCell (pr c) k) 0) from rfl)) $$ Hpay
  unfold runs
  imod (close X (K (barCell c)) (barCell c)) $$ [HatB] with Hb
  · isplitr; · iexact HIb
    iexact HatB
  -- the four copies started
  rw [wp_bind]
  iapply (run_sends X c K _)
  isplitl [HO Hs Hpay Htok]
  · isplitl [HO]; · iexact HO
    iapply (Entails.of_eq (sends_intro X c K))
    isplitr; · iexact HI
    isplitl [Hs]; · iexact Hs
    isplitl [Hpay]; · iexact Hpay
    isplitr; · iexact HrS
    iexact Htok
  iintro ⟨HO, HcS⟩
  -- the four arrivals waited for, the result made
  rw [wp_bind]
  iapply (runs_four c (making c r g (X c) (result (X c) (X (pr c)) r g)) (takePre X c K) (fun k => iprop(vAny c k ∗ semVal (vCell c k) 0))
    take (run_take X c K r g))
  isplitl [Hx Hr Hg Ho HO HcV HatV]
  · isplitr [HcV HatV]
    · unfold making
      isplitl [Hx]; · iexact Hx
      isplitl [Hr]; · iexact Hr
      isplitl [Hg]; · iexact Hg
      isplitl [Ho]
      · icases Ho with ⟨%f, Ho⟩
        iexists f
        isplitr
        · ipureintro; exact fun i hi => absurd hi (by omega)
        iexact Ho
      unfold free; iexists _; iexact HO
    iapply (Entails.of_eq (takes_intro X c K))
    isplitr; · iexact HI
    isplitl [HcV]; · iexact HcV
    iexact HatV
  iintro ⟨Hm, HB⟩
  unfold making
  icases Hm with ⟨Hx, Hr, Hg, ⟨%f, %hf, Ho⟩, HO⟩
  obtain rfl := upto_four _ f hf
  ihave HB := (Entails.of_eq (bigSep_sep' Finset.univ (vAny c) fun k : Fin 4 => semVal (vCell c k) 0)) $$ HB
  icases HB with ⟨Hv, HvZ⟩
  -- the four departures waited for
  iapply (runs_four c (fun _ => free c) (drainPre X c K) (fun k => iprop(sAny c k ∗ semVal (sCell c k) 0)) drain (run_drain X c K))
  isplitl [HO HcS HatS]
  · isplitl [HO]; · iexact HO
    iapply (Entails.of_eq (drains_intro X c K))
    isplitr; · iexact HI
    isplitl [HcS]; · iexact HcS
    iexact HatS
  iintro ⟨HO, HB⟩
  ihave HB := (Entails.of_eq (bigSep_sep' Finset.univ (sAny c) fun k : Fin 4 => semVal (sCell c k) 0)) $$ HB
  icases HB with ⟨Hs, HsZ⟩
  iapply Hk
  unfold talkPost scratch zeros
  isplitl [Hb HvZ HsZ]
  · isplitl [Hb]; · iexact Hb
    rw [bigSep_sep']
    isplitl [HsZ]; · iexact HsZ
    iexact HvZ
  isplitl [Hs Hv]
  · isplitl [Hs]; · iapply (join_send c); iexact Hs
    iapply (join_recv c); iexact Hv
  isplitr [HO]
  · isplitl [Hx]; · iexact Hx
    isplitl [Hr]; · iexact Hr
    isplitl [Hg]; · iexact Hg
    iexact Ho
  iexact HO

end Cert.KernelIdeal.Talk

end
-- ==== Proof.Region.lean ====
/- The kernel call as the launch sees it: what each window's staging buffer holds before and after the body, what the
   device owes on either side, and the body's obligation. -/
module

public import proofs.«01_k».proof.Proof.Talk
public import proofs.«01_k».proof.Proof.Gen.KernelIdeal.Frame

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## What the call finds -/

/-- Device `c`'s partial, the residual, the row of scales, and the result of the call. -/
def part (c : Dev nD) : S1x512x512.Idx → Elt F .bf16 := V m c main_arg0
def resid (c : Dev nD) : S512x512.Idx → Elt F .bf16 := V m c main_arg1
def gain (c : Dev nD) : S1x512.Idx → Elt F .bf16 := V m c main_v1
def made (c : Dev nD) : S512x512.Idx → Elt F .f32 := result (part m c) (part m (pr c)) (resid m c) (gain m c)

theorem at_start (s y : ℕ) : 0 * s + y = y := by rw [Nat.zero_mul, Nat.zero_add]

/-- A window is its whole array. -/
theorem blk0 (t : Fin cfg0.N) (f : S1x512x512.Idx → Elt F .bf16) : ((cfg0.win 0).blk t).view.read (Elt F) f = f :=
  funext fun y => congrArg f (funext fun a => Fin.ext (((cfg0.win 0).rect_emb_val_off t y a).trans (at_start _ _)))
theorem blk1 (t : Fin cfg0.N) (f : S512x512.Idx → Elt F .bf16) : ((cfg0.win 1).blk t).view.read (Elt F) f = f :=
  funext fun y => congrArg f (funext fun a => Fin.ext (((cfg0.win 1).rect_emb_val_off t y a).trans (at_start _ _)))
theorem blk2 (t : Fin cfg0.N) (f : S1x512.Idx → Elt F .bf16) : ((cfg0.win 2).blk t).view.read (Elt F) f = f :=
  funext fun y => congrArg f (funext fun a => Fin.ext (((cfg0.win 2).rect_emb_val_off t y a).trans (at_start _ _)))
theorem blk3 (t : Fin cfg0.N) (f : S512x512.Idx → Elt F .f32) : ((cfg0.win 3).blk t).view.read (Elt F) f = f :=
  funext fun y => congrArg f (funext fun a => Fin.ext (((cfg0.win 3).rect_emb_val_off t y a).trans (at_start _ _)))

/-! ## The proof data -/

/-- What the launch leaves with the protocol, for the call to open: the chunks' cells not yet begun. -/
def asleep (c : Dev nD) (k : Fin 4) : sProp 𝕄 := iprop(openTok ER (sCell c k) ∗ openTok ER (vCell c k))
def Tk (c : Dev nD) : sProp 𝕄 := iprop((∃ K, base (part m) c K ∗ bigSep Finset.univ (asleep c)) ∗ awaits c)
/-- What the call begins with, -/
def Xk (c : Dev nD) : sProp 𝕄 := iprop((∃ K, base (part m) c K ∗ bigSep Finset.univ (begun c)) ∗ awaits c ∗ levAts L lv)
/-- and what it leaves. -/
def Yk (c : Dev nD) : sProp 𝕄 := semVal (barCell c) 0

def dat (c : Dev nD) : Dat τ (Elt F) Unit ℕ UU ℕ cfg0 c where
  A w := V m c (Pipeline.arrRef spec0 w)
  after w t := match w with
    | 0 => part m c
    | 1 => resid m c
    | 2 => gain m c
    | 3 => made m c
    | ⟨_ + 4, h⟩ => absurd h (Nat.not_lt.2 (Nat.le_add_left _ _))
  Φ t := if t.val = 0 then iprop(Xk m c ∗ scratch c ∗ ∃ r, prngReg c r) else iprop(Yk c ∗ zeros c ∗ scratch c ∗ ∃ r, prngReg c r)
  q _ := fullShare
  owed t := if t.val = 0 then O₀ c else 0

theorem owed_zero (c : Dev nD) : (dat m c).owed 0 = O₀ c := by
  show (if ((0 : Fin (cfg0.N + 1)).val = 0) then O₀ c else 0) = O₀ c; exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]

theorem before_0 (c : Dev nD) (t : Fin cfg0.N) (d) : (dat m c).before 0 t d = part m c :=
  ((dat m c).before_in_eq_fetched 0 rfl (fun _ => rfl) (fun _ _ _ => rfl) (fun t => (blk0 t (part m c)).symm) t d).trans (blk0 t (part m c))
theorem before_1 (c : Dev nD) (t : Fin cfg0.N) (d) : (dat m c).before 1 t d = resid m c :=
  ((dat m c).before_in_eq_fetched 1 rfl (fun _ => rfl) (fun _ _ _ => rfl) (fun t => (blk1 t (resid m c)).symm) t d).trans (blk1 t (resid m c))
theorem before_2 (c : Dev nD) (t : Fin cfg0.N) (d) : (dat m c).before 2 t d = gain m c :=
  ((dat m c).before_in_eq_fetched 2 rfl (fun _ => rfl) (fun _ _ _ => rfl) (fun t => (blk2 t (gain m c)).symm) t d).trans (blk2 t (gain m c))

/-- What the arrays hold in the end: the inputs what they held, the output the result. -/
theorem arr_out (c : Dev nD) : (dat m c).arrAt 3 cfg0.N = made m c :=
  (dat m c).arrAt_eq_of_cover 3 (made m c) (fun t _ => (blk3 t (made m c)).symm) fun i =>
    ⟨t0_0, flush0_3 t0_0, by
      have h := ((cfg0.win 3).blk t0_0).view.emb_mem_set i
      rwa [show ((cfg0.win 3).blk t0_0).view.emb i = i from
        funext fun a => Fin.ext (((cfg0.win 3).rect_emb_val_off t0_0 i a).trans (at_start _ _))] at h⟩

theorem owesAt_of (c : Dev nD) (t : Fin (cfg0.N + 1)) {O : CellTallies nD τ sig Unit} (h : (dat m c).owed t = O) (W : Waits sig Unit) :
    (owes (c : Thread nD τ) O W : sProp 𝕄) ⊢ (dat m c).owesAt () t := by
  unfold Dat.owesAt Pipeline.owesWithin Dat.bound; rw [h]
  iintro HO; iexists W; isplitr; · ipureintro; exact fun _ _ => Or.inl trivial
  iexact HO
theorem of_owesAt (c : Dev nD) (t : Fin (cfg0.N + 1)) {O : CellTallies nD τ sig Unit} (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

/-! ## The body's obligation -/

theorem whole_held (c : Dev nD) (b : Ref sig .tc) (f : Buf (Elt F) ((c : Thread nD τ).loc b)) :
    (owns (c : Thread nD τ) (Memref.whole b) fullShare f : sProp 𝕄) = held c b f := owns_whole (c : Thread nD τ) b fullShare f

/-- The state before the body, and after it. -/
def before (c : Dev nD) : sProp 𝕄 :=
  iprop((Xk m c ∗ scratch c ∗ ∃ r, prngReg c r) ∗ (dat m c).owesAt () t0_0.castSucc
    ∗ (∃ d, held c cc0_stg0_0 ((dat m c).before 0 t0_0 d)) ∗ (∃ d, held c cc0_stg1_0 ((dat m c).before 1 t0_0 d))
    ∗ (∃ d, held c cc0_stg2_0 ((dat m c).before 2 t0_0 d)) ∗ (∃ d, held c cc0_stg3_0 ((dat m c).before 3 t0_0 d)))
def after (c : Dev nD) : sProp 𝕄 :=
  iprop((Yk c ∗ zeros c ∗ scratch c ∗ ∃ r, prngReg c r) ∗ (dat m c).owesAt () t0_0.succ
    ∗ held c cc0_stg0_0 (part m c) ∗ held c cc0_stg1_0 (resid m c) ∗ held c cc0_stg2_0 (gain m c) ∗ held c cc0_stg3_0 (made m c))

theorem body_run (c : Dev nD) : before m c ⊢ runs c (steps (F := F)) fun _ => after m c := by
  unfold before Xk
  iintro ⟨⟨⟨⟨%K, Hb⟩, Haw, Hlev⟩, Hscr, Hreg⟩, HO, ⟨%d0, Hx⟩, ⟨%d1, Hr⟩, ⟨%d2, Hg⟩, ⟨%d3, Ho⟩⟩
  rw [before_0, before_1, before_2]
  ihave HO := (of_owesAt m c t0_0.castSucc (owed_zero m c)) $$ HO
  icases HO with ⟨%W, HO⟩
  iapply (talkRun (part m) c K (resid m c) (gain m c) W fun _ => after m c)
  isplitr [Hreg]
  · unfold talkPre
    isplitl [Hb]; · iexact Hb
    isplitl [Haw]; · iexact Haw
    isplitl [Hlev]; · iexact Hlev
    isplitl [Hscr]; · iexact Hscr
    isplitr [HO]
    · isplitl [Hx]; · iexact Hx
      isplitl [Hr]; · iexact Hr
      isplitl [Hg]; · iexact Hg
      iexists _; iexact Ho
    iexact HO
  unfold talkPost free after Yk
  iintro ⟨⟨Hb, Hz⟩, Hscr, ⟨Hx, Hr, Hg, Ho⟩, ⟨%W', HO⟩⟩
  isplitr [HO Hx Hr Hg Ho]
  · isplitl [Hb]; · iexact Hb
    isplitl [Hz]; · iexact Hz
    isplitl [Hscr]; · iexact Hscr
    iexact Hreg
  isplitl [HO]; · iapply (owesAt_of m c t0_0.succ (owed_last m c) W'); iexact HO
  isplitl [Hx]; · iexact Hx
  isplitl [Hr]; · iexact Hr
  isplitl [Hg]; · iexact Hg
  iexact Ho

theorem body_obligation (c : Dev nD) : BodyObligation (dat m c) (defs₀ (F := F)) 𝒱₀ () Set.univ := fun t => by
  obtain rfl := fin_N0 t
  rw [bigSep_W0, bigSep_W0]
  have h := body_run m c
  rw [← body_eq t0_0] at h
  unfold before after runs at h
  simp only [← whole_held] at h
  exact h

end Cert.KernelIdeal.Talk

end
-- ==== Proof.Call.lean ====
/- @main as the host's line and the call: what the buffers hold at each stage, and the call's record. -/
module

public import proofs.«01_k».proof.Proof.Region
public import Idealize.ShloMosaic.Lib.Pipeline.RegionTalk
public import Idealize.ShloMosaic.Lib.Pipeline.Frame

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## What the buffers hold, before the host line, after it, and after the call -/

abbrev V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v2) (made m c)

theorem V₂_self (c : Dev nD) : V₂ m c (Proc.devRef .tc main_v2) = made m c := Function.update_self ..
theorem V₂_ne (c : Dev nD) {b : DevRef τ sig} (h : b ≠ Proc.devRef .tc main_v2) : V₂ m c b = V₁ m c b := Function.update_of_ne h ..

/-- The device's own buffers that outlive the call, and those of them that are no array of it. -/
abbrev all : Finset (DevRef τ sig) := Pipeline.ucRefs τ sig
abbrev arrs : Finset (DevRef τ sig) := Pipeline.arrRefs (τ := τ) spec0
abbrev others : Finset (DevRef τ sig) := all \ arrs

theorem held_all (c : Dev nD) (W : Valuation τ sig (Elt F)) : (StableHlo.held (c : Thread nD τ) all W : sProp 𝕄)
    = iprop(StableHlo.held (c : Thread nD τ) arrs W ∗ StableHlo.held (c : Thread nD τ) others W) :=
  StableHlo.held_sub_split _ (Pipeline.arrRefs_sub_ucRefs spec0 (by decide)) W

theorem out_mem : (Proc.devRef .tc main_v2 : DevRef τ sig) ∈ arrs := by decide

theorem others_kept (c : Dev nD) (b : DevRef τ sig) (hb : b ∈ others \ ∅) : V₂ m c b = V₁ m c b :=
  V₂_ne m c fun h => (Finset.mem_sdiff.mp (Finset.mem_sdiff.mp hb).1).2 (h ▸ out_mem)

/-! ## The segments -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat m

/-- What rides along with the buffers to the call. -/
def R (c : Dev nD) : sProp 𝕄 := iprop((Tk m c ∗ ∃ r, prngReg c r) ∗ ∃ W, owes (c : Thread nD τ) (O₀ c) W)

theorem ops_sub : ∀ op ∈ (hostOps0 : List (HloOp τ sig (Elt F))), op.bufs ⊆ all := fun op h =>
  Pipeline.sub_ucRefs op (List.forall_iff_forall_mem.mp hostOps0_sub op h)

def seg0 : Pipeline.HostSeg (Name := ℕ) (U := UU) (pcfgs (F := F)) defs₀ 𝒱₀ L lv :=
  Pipeline.HostSeg.ofOps _ _ _ _ _ all hostOps0 ops_sub (List.forall_iff_forall_mem.mp hostOps0_fresh) (V₀ m) (R m)

/-- The semaphores the call has for itself: two for each chunk. -/
def osem : Fin 4 × Fin 2 → SemLoc sig
  | (k, 0) => .dma (sSem k)
  | (k, 1) => .dma (vSem k)

theorem ownSems_eq (c : Dev nD) : (Pipeline.ownSems0 osem c : sProp 𝕄) = zeros c := by
  unfold Pipeline.ownSems0 zeros
  rw [bigSep_univ_prod]
  exact bigSep_congr fun k _ => BI.bigSep_fin_two (fun i : Fin 2 => (semVal ((c : Thread nD τ), osem (k, i)) 0 : sProp 𝕄))

theorem kitP : Pipeline.PLaunchFacts (nD := nD) (τ := τ) (pcfgs (F := F)) 0 := launch0.toP

/-- One cell opened: its counter goes to its invariant. -/
theorem open_cell (K : GSem nD τ sig → ℕ) (g : GSem nD τ sig) :
    iprop(cellInv ER (talkRd (part m)) (K g) g ∗ (openTok ER g ∗ semVal g 0)) ⊢ (|={Set.univ}=> (atPos ER g 0 ∅ 0 ∗ reached ER g 0) : sProp 𝕄) :=
  Rounds.cell_open ER (talkRd (part m)) (Set.mem_univ (K g))

/-- The two cells of a chunk opened. -/
theorem open_chunk (c : Dev nD) (K : GSem nD τ sig → ℕ) (k : Fin 4) :
    iprop(invC (part m) c K k ∗ (asleep c k ∗ (semVal (sCell c k) 0 ∗ semVal (vCell c k) 0))) ⊢ (|={Set.univ}=> begun c k : sProp 𝕄) := by
  unfold invC asleep begun
  iintro ⟨⟨#HIs, #HIv, -⟩, ⟨Hos, Hov⟩, Hzs, Hzv⟩
  imod (open_cell m K (sCell c k)) $$ [Hos Hzs] with Hs
  · isplitr; · iexact HIs
    isplitl [Hos] <;> iassumption
  imod (open_cell m K (vCell c k)) $$ [Hov Hzv] with Hv
  · isplitr; · iexact HIv
    isplitl [Hov] <;> iassumption
  imodintro
  isplitl [Hs] <;> iassumption

theorem open_chunks (c : Dev nD) (K : GSem nD τ sig → ℕ) :
    iprop(bigSep Finset.univ (invC (part m) c K) ∗ bigSep Finset.univ (asleep c) ∗ zeros c)
      ⊢ (|={Set.univ}=> bigSep Finset.univ (begun c) : sProp 𝕄) := by
  unfold zeros
  rw [← bigSep_sep', ← bigSep_sep']
  exact (bigSep_mono fun k _ => open_chunk m c K k).trans (bigSep_fupd _ _)

theorem hopen (c : Dev nD) : iprop(Tk m c ∗ Pipeline.ownSems0 osem c ∗ levAts L lv) ⊢ (|={Set.univ}=> Xk m c : sProp 𝕄) := by
  rw [ownSems_eq]
  unfold Tk Xk base invs
  iintro ⟨⟨⟨%K, ⟨⟨#HIb, #HIp, #HI⟩, Hat, #Hr, Ht, Htok⟩, Hsl⟩, Haw⟩, Hz, #Hlev⟩
  imod (open_chunks m c K) $$ [Hsl Hz] with Hb
  · isplitr; · iexact HI
    isplitl [Hsl] <;> iassumption
  imodintro
  isplitr [Haw]
  · iexists K
    isplitr [Hb]
    · isplitr
      · isplitr; · iexact HIb
        isplitr; · iexact HIp
        iexact HI
      isplitl [Hat]; · iexact Hat
      isplitr; · iexact Hr
      isplitl [Ht] <;> iassumption
    iexact Hb
  isplitl [Haw]; · iexact Haw
  iexact Hlev

theorem scoped_eq (c : Dev nD) : (Pipeline.scopedRest (Ix := Unit) (Name := ℕ) (U := UU) (Lvl := ℕ) (Val := Elt F) (Pipeline.pin (pcfgs (F := F)) adm 0).spec c : sProp 𝕄)
    = scratch c := scopedRest0_eq c

theorem held_none (c : Dev nD) (W : Valuation τ sig (Elt F)) : (StableHlo.held (c : Thread nD τ) ∅ W : sProp 𝕄) = BI.emp := by
  unfold StableHlo.held
  exact BI.bigSep_empty

theorem hin (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = iprop(Xk m c ∗ scratch c ∗ ∃ r, prngReg c r) from rfl, scoped_eq]
  iintro ⟨Hs, Hp, -, HX⟩
  isplitl [HX]; · iexact HX
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = iprop(Yk c ∗ zeros c ∗ scratch c ∗ ∃ r, prngReg c r) from rfl, scoped_eq, ownSems_eq, held_none]
  iintro ⟨HY, Hz, Hs, Hp⟩
  isplitl [Hs]; · iexact Hs
  isplitl [Hp]; · iexact Hp
  isplitr; · iempintro
  isplitl [Hz] <;> iassumption

/-- A device waits for its own staging copies below everything it owes. -/
theorem cut (c : Dev nD) (t : Fin (cfg0.N + 1)) (g : GSem nD τ sig) (i : Unit) (h : 0 < (dat (F := F) m c).owed t g i) :
    i ∈ L g ∧ 0 < lv g i := by
  have e : (dat (F := F) m c).owed t = if t.val = 0 then O₀ c else 0 := rfl
  rw [e] at h
  split at h
  · unfold O₀ at h
    rw [Pi.add_apply, Finsupp.add_apply] at h
    rcases Nat.add_pos_iff_pos_or_pos.mp h with h | h
    · obtain ⟨k, rfl⟩ := left_pos h
      exact ⟨by rw [L_tc]; exact Finset.mem_singleton_self _, by show 0 < level _; rw [level_v]; decide⟩
    · obtain ⟨rfl, -⟩ := Pipeline.tallyAt_pos h
      exact ⟨by rw [L_tc]; exact Finset.mem_singleton_self _, by show 0 < 1; decide⟩
  · exact absurd h (Nat.lt_irrefl 0)

theorem stage_level : ∀ (w : Fin 4) (s : Fin (cfg0.win w).nbuf), level (.dma ((cfg0.win w).sem s)) = 0 := by decide

theorem arr_before (c : Dev nD) (w : Fin cfg0.W) : (dat m c).arrAt w 0 = V₁ m c (Proc.devRef .tc (Pipeline.arrRef spec0 w)) := rfl
theorem arr_after (c : Dev nD) : ∀ w : Fin cfg0.W, (dat m c).arrAt w cfg0.N = V₂ m c (Proc.devRef .tc (Pipeline.arrRef spec0 w))
  | 0 => ((dat m c).arrAt_in 0 rfl _).trans (V₂_ne m c (b := Proc.devRef .tc main_arg0) (by decide)).symm
  | 1 => ((dat m c).arrAt_in 1 rfl _).trans (V₂_ne m c (b := Proc.devRef .tc main_arg1) (by decide)).symm
  | 2 => ((dat m c).arrAt_in 2 rfl _).trans (V₂_ne m c (b := Proc.devRef .tc main_v1) (by decide)).symm
  | 3 => (arr_out m c).trans (V₂_self m c).symm
  | ⟨_ + 4, h⟩ => absurd h (Nat.not_lt.2 (Nat.le_add_left _ _))

theorem share_full (c : Dev nD) (w : Fin cfg0.W) : (dat m c).share w = fullShare := by unfold Dat.share; split <;> rfl

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kitP rfl (fun c => (body_obligation m c).loose)
    (fun _ => 0) O₀ (fun c => (owed_zero m c).trans (zero_add _).symm) (owed_last m) (fun _ => rfl) (share_full m)
    (V₁ m) (V₂ m) (others_kept m) (Tk m) Yk (Xk m) Yk (hopen m) (hin m) (hout m)
    (fun c => by iintro H; imodintro; iexact H)
    (fun _ => 0)
    ⟨fun c w s => by rw [L_tc]; exact Finset.mem_singleton_self _, fun c w s => Nat.le_of_eq (stage_level w s), fun c t g i h => cut m c t g i h⟩
    (fun _ => iprop(emp))
    (arr_before m) (arr_after m)

theorem reg_pre (c : Dev nD) : iprop(StableHlo.held (c : Thread nD τ) all (V₁ m c) ∗ R m c) ⊢ (reg0 m).pre c := by
  show _ ⊢ iprop(StableHlo.held (c.tc : Thread nD τ) arrs (V₁ m c) ∗ (∃ r, prngReg c r)
    ∗ (StableHlo.held (c.tc : Thread nD τ) others (V₁ m c) ∗ emp) ∗ Tk m c ∗ ∃ Wd, owes (c : Thread nD τ) (0 + O₀ c) Wd)
  rw [zero_add, held_all]
  unfold R
  iintro ⟨⟨Ha, Hh⟩, ⟨HT, Hp⟩, HO⟩
  isplitl [Ha]; · iexact Ha
  isplitl [Hp]; · iexact Hp
  isplitl [Hh]
  · isplitl [Hh]; · iexact Hh
    iempintro
  isplitl [HT]; · iexact HT
  iexact HO

theorem reg_post (c : Dev nD) : (reg0 m).post c
    ⊢ iprop((StableHlo.held (c : Thread nD τ) all (V₂ m c) ∗ Yk c) ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  rw [held_all]
  iintro ⟨Ha, -, ⟨Hh, -⟩, HY, HO⟩
  isplitr [HO]
  · isplitr [HY]
    · isplitl [Ha] <;> iassumption
    iexact HY
  iexact HO

/-- @main: the host line, then the call. -/
def segs : List (Pipeline.Seg (pcfgs (F := F)) adm (pdats m) () defs₀ 𝒱₀ L lv) := [.host (seg0 m), .region (reg0 m)]

theorem main_eq (c : Dev nD) : main (F := F) c = Pipeline.Seg.run (segs m) :=
  main_segs adm (pdats m) () 𝒱₀ L lv (seg0 m) (reg0 m) rfl c

end Cert.KernelIdeal.Talk

end
-- ==== Proof.Deal.lean ====
/- The launch: the protocol's cells allocated on all devices, and every device dealt its positions, its rights to open its
   cells, the tokens of the duties it pays, and the credit of what it waits for. -/
module

public import proofs.«01_k».proof.Proof.Call
public import Idealize.ShloMosaic.Harness.Basic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The cells and the tokens -/

theorem osem_inj : Function.Injective osem := by decide
theorem osem_dma : ∀ k, osem k ≠ .reg bSem := by decide

def barEmb : Dev nD ↪ GSem nD τ sig := ⟨fun c => barCell c, fun _ _ h => congrArg (fun g : GSem nD τ sig => g.1.1) h⟩
def chunkEmb : Dev nD × (Fin 4 × Fin 2) ↪ GSem nD τ sig :=
  ⟨fun x => ((x.1 : Thread nD τ), osem x.2), fun _ _ h =>
    Prod.ext (congrArg (fun g : GSem nD τ sig => g.1.1) h) (osem_inj (congrArg Prod.snd h))⟩
def tokEmb : GSem nD τ sig ↪ GSem nD τ sig × ℕ × Unit := ⟨fun g => (g, 0, ()), fun _ _ h => congrArg Prod.fst h⟩

/-- The barrier cells, whose counters are there at launch; the chunks' cells, whose counters the call brings. -/
abbrev bars : Finset (GSem nD τ sig) := Finset.univ.map barEmb
abbrev chunks : Finset (GSem nD τ sig) := Finset.univ.map chunkEmb
/-- One duty on each. -/
abbrev tokens : Finset (GSem nD τ sig × ℕ × Unit) := (bars ∪ chunks).map tokEmb

theorem bars_chunks : Disjoint (bars : Finset (GSem nD τ sig)) chunks := by
  rw [Finset.disjoint_left]
  rintro g h₁ h₂
  obtain ⟨c, -, rfl⟩ := Finset.mem_map.mp h₁
  obtain ⟨x, -, h⟩ := Finset.mem_map.mp h₂
  exact osem_dma x.2 (congrArg Prod.snd h)

theorem bar_mem (c : Dev nD) : barCell c ∈ (bars ∪ chunks : Finset (GSem nD τ sig)) :=
  Finset.mem_union_left _ (Finset.mem_map_of_mem barEmb (Finset.mem_univ c))
theorem s_mem (c : Dev nD) (k : Fin 4) : sCell c k ∈ (bars ∪ chunks : Finset (GSem nD τ sig)) :=
  Finset.mem_union_right _ (Finset.mem_map_of_mem chunkEmb (Finset.mem_univ (c, (k, (0 : Fin 2)))))
theorem v_mem (c : Dev nD) (k : Fin 4) : vCell c k ∈ (bars ∪ chunks : Finset (GSem nD τ sig)) :=
  Finset.mem_union_right _ (Finset.mem_map_of_mem chunkEmb (Finset.mem_univ (c, (k, (1 : Fin 2)))))

/-- A family over the barrier cells is one over the devices, -/
theorem over_bars (Φ : GSem nD τ sig → sProp 𝕄) : bigSep bars Φ = bigSep Finset.univ fun c : Dev nD => Φ (barCell c) :=
  bigSep_map barEmb
/-- and one over the chunks' cells is one over the devices and their chunks. -/
theorem over_chunks (Φ : GSem nD τ sig → sProp 𝕄) : bigSep chunks Φ
    = bigSep Finset.univ fun c : Dev nD => bigSep Finset.univ fun k : Fin 4 => iprop(Φ (sCell c k) ∗ Φ (vCell c k)) := by
  rw [bigSep_map, bigSep_univ_prod]
  refine bigSep_congr fun c _ => ?_
  rw [bigSep_univ_prod]
  exact bigSep_congr fun k _ => BI.bigSep_fin_two (fun i : Fin 2 => Φ ((c : Thread nD τ), osem (k, i)))

/-- The tokens dealt: each device holds those of the duties it pays, the partner's barrier and arrivals and its own departures. -/
theorem deal : (bigSep tokens fun x => (dutyTok ER x.1 x.2.1 x.2.2 : sProp 𝕄))
    ⊢ bigSep Finset.univ fun c : Dev nD => iprop(dutyTok ER (barCell (pr c)) 0 () ∗ bigSep Finset.univ (tokC c)) := by
  rw [bigSep_map, BI.bigSep_union bars_chunks]
  show iprop(bigSep bars (fun g => (dutyTok ER g 0 () : sProp 𝕄)) ∗ bigSep chunks (fun g => (dutyTok ER g 0 () : sProp 𝕄))) ⊢ _
  rw [over_bars, over_chunks, bigSep_sep', bigSep_univ_equiv swap (fun c : Dev nD => (dutyTok ER (barCell c) 0 () : sProp 𝕄))]
  refine sep_mono_right (Entails.of_eq ?_)
  calc _ = iprop((bigSep Finset.univ fun c : Dev nD => bigSep Finset.univ fun k : Fin 4 => (dutyTok ER (sCell c k) 0 () : sProp 𝕄))
        ∗ bigSep Finset.univ fun c : Dev nD => bigSep Finset.univ fun k : Fin 4 => (dutyTok ER (vCell c k) 0 () : sProp 𝕄)) := by
        rw [← bigSep_sep']; exact bigSep_congr fun c _ => bigSep_sep' ..
    _ = iprop((bigSep Finset.univ fun c : Dev nD => bigSep Finset.univ fun k : Fin 4 => (dutyTok ER (sCell c k) 0 () : sProp 𝕄))
        ∗ bigSep Finset.univ fun c : Dev nD => bigSep Finset.univ fun k : Fin 4 => (dutyTok ER (vCell (pr c) k) 0 () : sProp 𝕄)) := by
        rw [bigSep_univ_equiv swap (fun c : Dev nD => bigSep Finset.univ fun k : Fin 4 => (dutyTok ER (vCell c k) 0 () : sProp 𝕄))]; rfl
    _ = _ := by
        rw [← bigSep_sep']; exact bigSep_congr fun c _ => (bigSep_sep' ..).symm

/-! ## The credit -/

/-- What the other devices owe a device at launch is what it waits for. -/
theorem credits (c : Dev nD) : (Pipeline.launchCred O₀ c : sProp 𝕄) ⊢ awaits c := by
  have hl : (fun d => left d 0) = fun d : Dev nD => ∑ k : Fin 4, (tallyAt (vCell (pr d) k) () N : CellTallies nD τ sig Unit) :=
    funext fun d => Finset.sum_congr rfl fun k _ => if_pos (Nat.zero_le _)
  have hO : (O₀ : Dev nD → CellTallies nD τ sig Unit)
      = fun d => (fun d : Dev nD => ∑ k : Fin 4, (tallyAt (vCell (pr d) k) () N : CellTallies nD τ sig Unit)) d
        + (fun d : Dev nD => (tallyAt (barCell (pr d)) () 1 : CellTallies nD τ sig Unit)) d := by
    rw [← hl]; rfl
  rw [hO, Pipeline.launchCred_add, Pipeline.launchCred_sum]
  unfold awaits
  have hv : (bigSep Finset.univ fun k : Fin 4 => (Pipeline.launchCred (fun d : Dev nD => (tallyAt (vCell (pr d) k) () N : CellTallies nD τ sig Unit)) c : sProp 𝕄))
      ⊢ bigSep Finset.univ fun k : Fin 4 => cred (tallyAt (vCell c k) () N) :=
    bigSep_mono fun k _ => Pipeline.launchCred_tallyAt (SemLoc.dma (vSem k)) pr pr pr_pr pr_pr () N c
  iintro ⟨Hv, Hb⟩
  isplitl [Hb]
  · iapply (Pipeline.launchCred_tallyAt (SemLoc.reg bSem) pr pr pr_pr pr_pr () 1 c) $$ Hb
  iapply hv $$ Hv

/-! ## A device's share -/

/-- What every device may consult: all the cells' invariants, and that round 0 of each barrier is reached. -/
def records (K : GSem nD τ sig → ℕ) : sProp 𝕄 :=
  iprop((bigSep (bars ∪ chunks) fun g => cellInv ER (talkRd (part m)) (K g) g) ∗ bigSep bars fun g => reached ER g 0)
instance (K : GSem nD τ sig → ℕ) : BI.Persistent (records m K) := by unfold records; infer_instance

/-- What goes to one device. -/
def own (c : Dev nD) : sProp 𝕄 :=
  iprop(atPos ER (barCell c) 0 ∅ 0 ∗ bigSep Finset.univ (asleep c) ∗ dutyTok ER (barCell (pr c)) 0 () ∗ bigSep Finset.univ (tokC c))

theorem inv_of (K : GSem nD τ sig → ℕ) {g : GSem nD τ sig} (hg : g ∈ (bars ∪ chunks : Finset (GSem nD τ sig))) :
    records m K ⊢ cellInv ER (talkRd (part m)) (K g) g := by
  unfold records
  exact sep_elim_left.trans (bigSep_elim hg)

theorem chunk_invs (K : GSem nD τ sig → ℕ) (c : Dev nD) : records m K ⊢ bigSep Finset.univ (invC (part m) c K) :=
  bigSep_intro_persistent fun k _ => by
    unfold invC
    iintro #H
    isplitr; · iapply (inv_of m K (s_mem c k)); iexact H
    isplitr; · iapply (inv_of m K (v_mem c k)); iexact H
    iapply (inv_of m K (v_mem (pr c) k)); iexact H

theorem share_of (K : GSem nD τ sig → ℕ) (c : Dev nD) :
    iprop(records m K ∗ own c) ⊢ iprop(∃ K, base (part m) c K ∗ bigSep Finset.univ (asleep c)) := by
  unfold own base invs
  iintro ⟨#HR, Hat, Hsl, Ht, Htok⟩
  iexists K
  isplitr [Hsl]
  · isplitr
    · isplitr; · iapply (inv_of m K (bar_mem c)); iexact HR
      isplitr; · iapply (inv_of m K (bar_mem (pr c))); iexact HR
      iapply (chunk_invs m K c); iexact HR
    isplitl [Hat]; · iexact Hat
    isplitr
    · iapply (show records m K ⊢ reached ER (barCell (pr c)) 0 by
        unfold records
        exact sep_elim_right.trans (bigSep_elim (Finset.mem_map_of_mem barEmb (Finset.mem_univ (pr c)))))
      iexact HR
    isplitl [Ht] <;> iassumption
  iexact Hsl

/-! ## The launch -/

theorem stage_inj : Function.Injective (Pipeline.cellOf (nD := nD) (τ := τ) (Pipeline.pin (pcfgs (F := F)) adm)) := cellOf_inj

/-- The ghost state at launch: the staging copies', and the protocol's. -/
def u₀ : UU :=
  (initOf (Pipeline.cells (Pipeline.pin (pcfgs (F := F)) adm) stage_inj) (Pipeline.launchToks (Pipeline.pin (pcfgs (F := F)) adm) stage_inj),
    launchOf bars chunks tokens)

/-- The protocol's ghost state, left with device 0 until it is dealt. -/
def G (c : Dev nD) : sProp 𝕄 := if c = 0 then BI.own (ER (launchOf bars chunks tokens)) else iprop(emp)
theorem all_G : bigSep Finset.univ (G (F := F)) = BI.own (ER (launchOf bars chunks tokens)) := by
  rw [bigSep_univ_at _ (0 : Dev nD), bigSep_congr (s := Finset.univ.erase 0) (Ψ := fun _ => (BI.emp : sProp 𝕄))
      fun c hc => show G c = _ from if_neg (Finset.ne_of_mem_erase hc), BI.bigSep_emp_const]
  unfold G
  rw [if_pos rfl]
  exact BI.equiv_iff.mp sep_emp

/-- A device before the host line, and at the end. -/
abbrev T₀ (c : Dev nD) : sProp 𝕄 := iprop(StableHlo.held (c : Thread nD τ) all (V₀ m c) ∗ R m c)
abbrev Tₙ (c : Dev nD) : sProp 𝕄 := iprop(StableHlo.held (c : Thread nD τ) all (V₂ m c) ∗ Yk c)

/-- What a device has at launch beside the protocol's share. -/
def rest (c : Dev nD) : sProp 𝕄 :=
  iprop(StableHlo.held (c : Thread nD τ) all (V₀ m c) ∗ awaits c ∗ owes (c : Thread nD τ) (O₀ c) ∅ ∗ ∃ r, prngReg c r)

theorem T₀_of (K : GSem nD τ sig → ℕ) (c : Dev nD) : iprop(records m K ∗ (own c ∗ rest m c)) ⊢ T₀ m c := by
  unfold rest T₀ R Tk
  iintro ⟨#HR, Hl, Hh, Hw, HO, Hp⟩
  isplitl [Hh]; · iexact Hh
  isplitr [HO]
  · isplitr [Hp]
    · isplitl [Hl]
      · iapply (share_of m K c)
        isplitr; · iexact HR
        iexact Hl
      iexact Hw
    iexact Hp
  iexists ∅; iexact HO

theorem counters (c : Dev nD) : (unscopedSems0 c : sProp 𝕄) = semVal (barCell c) 0 := by
  unfold unscopedSems0
  rw [show (Finset.univ.filter fun sm : SemLoc sig => ¬ sm.isScoped .tc) = {SemLoc.reg bSem} from by decide, BI.bigSep_singleton]

variable (ρ : Dev nD → PrngReg)

theorem device_init (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(rest m c ∗ (semVal (barCell c) 0 ∗ G c)) : sProp 𝕄) := by
  rw [show unscopedBufs c (fun b => m ((c : Thread nD τ).loc b)) = StableHlo.held (c : Thread nD τ) all (V₀ m c) from
    Pipeline.unscopedBufs_held c (V₀ m c), counters]
  unfold rest
  iintro ⟨Hh, Hb, HO, Hcr, Hp, HG⟩
  ihave Hc := (credits (F := F) c) $$ Hcr
  isplitr [Hb HG]
  · isplitl [Hh]; · iexact Hh
    isplitl [Hc]; · iexact Hc
    isplitl [HO]; · iexact HO
    iexists (ρ c); iexact Hp
  isplitl [Hb] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  refine (sep_mono_left (bigSep_mono fun c _ => device_init m ρ c)).trans ?_
  rw [bigSep_sep', bigSep_sep', all_G, ← over_bars (fun g => (semVal g 0 : sProp 𝕄))]
  iintro ⟨⟨HB, Hv, Hu⟩, -⟩
  imod (Rounds.fund_launch ER (talkRd (part m)) bars_chunks (fun g _ h => h) tokens) $$ [Hv Hu] with ⟨%K, -, #Hinv, #Hr, Hat, Hopen, Htok⟩
  · isplitl [Hv] <;> iassumption
  imodintro
  iapply (bigSep_with_persistent (R := records m K) (Φ := fun c => iprop(own c ∗ rest m c)) fun c _ => T₀_of m K c)
  isplitr
  · unfold records
    isplitr; · iexact Hinv
    iexact Hr
  iapply (Entails.of_eq (bigSep_sep' _ _ _).symm)
  isplitr [HB]
  · unfold own
    iapply (Entails.of_eq (bigSep_sep' _ _ _).symm)
    isplitl [Hat]; · iapply (Entails.of_eq (over_bars (fun g => (atPos ER g 0 ∅ 0 : sProp 𝕄)))) $$ Hat
    iapply (Entails.of_eq (bigSep_sep' _ _ _).symm)
    isplitl [Hopen]; · iapply (Entails.of_eq (over_chunks (fun g => (openTok ER g : sProp 𝕄)))) $$ Hopen
    iapply (deal (F := F)) $$ Htok
  iexact HB

end Cert.KernelIdeal.Talk

end
-- ==== Proof.Run.lean ====
/- The run of the whole program on the 32 devices, over any float values. -/
module

public import proofs.«01_k».proof.Proof.Deal
public import Idealize.ShloMosaic.Lib.Quiescent

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

theorem all_eq : (all : Finset (DevRef τ sig)) = [Proc.devRef .tc main_arg0, Proc.devRef .tc main_arg1, Proc.devRef .tc main_arg2,
    Proc.devRef .tc main_v1, Proc.devRef .tc main_v2].toFinset := by decide

theorem only_bar : ∀ sm : SemLoc sig, sm.isScoped .tc = false → sm = .reg bSem := by decide

theorem V₂_arg0 (c : Dev nD) : V₂ m c (Proc.devRef .tc main_arg0) = m ((c : Thread nD τ).loc main_arg0) :=
  (V₂_ne m c (by decide)).trans (V_main_arg0 m c)
theorem V₂_arg1 (c : Dev nD) : V₂ m c (Proc.devRef .tc main_arg1) = m ((c : Thread nD τ).loc main_arg1) :=
  (V₂_ne m c (by decide)).trans (V_main_arg1 m c)
theorem V₂_arg2 (c : Dev nD) : V₂ m c (Proc.devRef .tc main_arg2) = m ((c : Thread nD τ).loc main_arg2) :=
  (V₂_ne m c (by decide)).trans (V_main_arg2 m c)

/-- One buffer of device `c`, whole. -/
abbrev buf (c : Dev nD) (W : Valuation τ sig (Elt F)) (b : DevRef τ sig) : sProp 𝕄 := ((c, b) : Loc nD τ sig) ↦{fullShare} W b

theorem held_list (c : Dev nD) (W : Valuation τ sig (Elt F)) : (StableHlo.held (c : Thread nD τ) all W : sProp 𝕄)
    = iprop(buf c W (Proc.devRef .tc main_arg0) ∗ buf c W (Proc.devRef .tc main_arg1) ∗ buf c W (Proc.devRef .tc main_arg2)
      ∗ buf c W (Proc.devRef .tc main_v1) ∗ buf c W (Proc.devRef .tc main_v2)) := by
  unfold StableHlo.held
  exact bigSep_eq_bigSepL_of_eq _ all_eq (by decide) _

variable (ρ : Dev nD → PrngReg)

set_option backward.isDefEq.respectTransparency.types false in
/-- From any memory with the counters at zero, every run of @main on the 32 devices ends with each device's result made of
    its own partial and its partner's, its arguments as they were, and every counter at zero. -/
theorem run_main : θ_run defs (onTc (τ := τ) (main (F := F))) ⟨m, fun _ => 0, ρ⟩
    (fun r => (∀ c : Dev nD, r.2.mem ((c : Thread nD τ).loc main_v2) = made m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () stage_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [all_G]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c (Proc.devRef .tc main_arg0)
        ∧ s.mem ((c : Thread nD τ).loc main_arg1) = V₂ m c (Proc.devRef .tc main_arg1)
        ∧ s.mem ((c : Thread nD τ).loc main_arg2) = V₂ m c (Proc.devRef .tc main_arg2)
        ∧ s.mem ((c : Thread nD τ).loc main_v2) = V₂ m c (Proc.devRef .tc main_v2)) ∧ s.sem (barCell c) = 0)
    (hfin := fun c s' => by
      dsimp only [Tₙ, Yk]
      rw [held_list]
      iintro ⟨⟨⟨H0, H1, H2, -, H3⟩, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        exact ⟨h3.trans (V₂_self m c), h0.trans (V₂_arg0 m c), h1.trans (V₂_arg1 m c), h2.trans (V₂_arg2 m c)⟩,
      sem_eq_zero hs fun c sm hsm => by
        obtain rfl := only_bar sm hsm
        exact (h c).2⟩)

/-- The run with the results dropped. -/
theorem run_frame : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  (θ_run defs _ _).mono (fun _ h => ⟨fun c => (h.1 c).2, h.2⟩) (run_main m ρ)

end Cert.KernelIdeal.Talk

end
-- ==== Proof.SameText.lean ====
/- The kernel as printed and the ideal kernel have the same text: their bodies' tables are equal. -/
module

public import proofs.«01_k».proof.Proof.Gen.Kernel
public import proofs.«01_k».proof.Proof.Gen.KernelIdeal

@[expose] public section

namespace Cert.SameText

open Idealize.ShloMosaic

variable {F : FTy → Type} [FloatOps F]

theorem bodies_eq : Kernel.defs₀ (F := F) = KernelIdeal.defs₀ (F := F) := by
  unfold Kernel.defs₀ KernelIdeal.defs₀
  refine congrArg Defs.onTc (funext fun l => funext fun a => ?_)
  match l, a with
  | 0, (_, _) => rfl

theorem defs_eq : Kernel.defs (F := F) = KernelIdeal.defs (F := F) := by
  unfold Kernel.defs KernelIdeal.defs
  rw [bodies_eq]
  rfl

end Cert.SameText
-- ==== Proof.RowMath.lean ====
/- The normalisation of one row over the extended reals: dividing by the root of the mean square, as the reference does, and
   multiplying by one over the root, as the kernel does, are the same, at the infinities too. -/
module

public import Idealize.ShloMosaic.PureOps.Ideal
public import Idealize.ShloMosaic.Lib.IdealHost

@[expose] public section

noncomputable section

namespace Cert.RowMath

open Idealize.ShloMosaic

/-- The row's length, and the small number that keeps the mean square away from zero. -/
def len : EReal := Ideal.ofBits .f32 0x44000000#32
def eps : EReal := Ideal.ofBits .f32 0x358637BD#32

theorem len_eq : len = ((512 : ℝ) : EReal) := by
  simp [len, Ideal.ofBits, Ideal.ieee, -EReal.coe_mul]; norm_num

theorem eps_pos : 0 < eps := by
  simp [eps, Ideal.ofBits, Ideal.ieee, -EReal.coe_mul]

/-- The mean of a row's squares, with `eps` added. -/
def meanSq (s : Fin 512 → EReal) : EReal := Ideal.div (∑ k, s k * s k) len + eps

/-- A square is not negative. -/
theorem sq_nonneg (x : EReal) : 0 ≤ x * x := by
  rcases le_total 0 x with h | h
  · exact mul_nonneg h h
  · exact EReal.mul_nonneg_iff.mpr (.inr ⟨h, h⟩)

theorem meanSq_pos (s : Fin 512 → EReal) : 0 < meanSq s := by
  unfold meanSq
  rw [len_eq, Ideal.div_coe (by norm_num)]
  refine lt_of_lt_of_le eps_pos ?_
  have h : 0 ≤ (∑ k, s k * s k) * ((1 / 512 : ℝ) : EReal) :=
    mul_nonneg (Finset.sum_nonneg fun k _ => sq_nonneg (s k)) (EReal.coe_nonneg.mpr (by norm_num))
  calc eps = 0 + eps := (zero_add _).symm
    _ ≤ _ := add_le_add_left h _

/-- Dividing by the root of a positive number is multiplying by one over its root. -/
theorem div_sqrt (y : EReal) {z : EReal} (hz : 0 < z) : Ideal.div y (Ideal.sqrt z) = y * Ideal.rsqrt z := by
  induction z with
  | bot => exact absurd hz (by simp)
  | top => simp [Ideal.div]
  | coe r =>
    have hr : 0 < r := EReal.coe_pos.mp hz
    rw [Ideal.sqrt_coe, Ideal.rsqrt_coe, if_neg hr.not_gt, if_neg hr.not_gt, if_neg hr.ne',
      Ideal.div_coe (Real.sqrt_pos.mpr hr).ne', one_div]

/-- A row normalised and scaled, as the kernel writes it, and as the reference does. -/
def kernelRow (s g : Fin 512 → EReal) (q : Fin 512) : EReal := s q * Ideal.rsqrt (meanSq s) * g q
def referenceRow (s g : Fin 512 → EReal) (q : Fin 512) : EReal := Ideal.div (s q) (Ideal.sqrt (meanSq s)) * g q

theorem rows_eq (s g : Fin 512 → EReal) (q : Fin 512) : referenceRow s g q = kernelRow s g q := by
  unfold referenceRow kernelRow
  rw [div_sqrt _ (meanSq_pos s)]

end Cert.RowMath

end
-- ==== Proof.Value.lean ====
/- The kernel's result over the extended reals, element by element. -/
module

public import proofs.«01_k».proof.Proof.Block
public import proofs.«01_k».proof.Proof.RowMath
public import Idealize.ShloMosaic.Lib.Pointwise

@[expose] public section

noncomputable section

namespace Cert.KernelIdeal.Talk

open Idealize.ShloMosaic Idealize.ShloMosaic.TcCoe
open Cert.KernelIdeal Cert.KernelIdeal.Gen Cert.RowMath

theorem norm_at (a b r : FVec Ideal S128x512 .bf16) (g : FVec Ideal S1x512 .bf16) (p : Fin 128) (q : Fin 512) :
    normRows a b r g (ix2 p q)
      = kernelRow (fun k => a (ix2 p k) + b (ix2 p k) + r (ix2 p k)) (fun k => g (ix2 0 k)) q := by
  pointwise [normRows, sumRows, scaleRows]
  rfl

variable {F : FTy → Type} [FloatOps F]

/-- Row `r` of chunk `k` is row `128 k + r`. -/
def rowOf (k : Fin 4) (r : Fin 128) : Fin 512 := ⟨128 * k.val + r.val, by omega⟩

/-- A chunk without its unit axis. -/
theorem drop_unit (f : Vec F S1x128x512 .bf16) (r : Fin 128) (q : Fin 512) :
    shapeCast S128x512 f shapeCasts_S1x128x512_S128x512 (ix2 r q) = f (ix3 0 r q) := by
  pointwise

theorem chunk_at (k : Fin 4) (x : S1x512x512.Idx → Elt F .bf16) (r : Fin 128) (q : Fin 512) :
    chunk k x (ix2 r q) = x (ix3 0 (rowOf k r) q) := by
  refine (drop_unit _ r q).trans (congrArg x (funext fun a => Fin.ext ?_))
  match a with
  | 0 => show 0 + 1 * 0 = 0; rfl
  | 1 => show 128 * k.val + 1 * r.val = 128 * k.val + r.val; omega
  | 2 => show 0 + 1 * q.val = q.val; omega

theorem rows_at (k : Fin 4) (x : S512x512.Idx → Elt F .bf16) (r : Fin 128) (q : Fin 512) :
    rows k x (ix2 r q) = x (ix2 (rowOf k r) q) := by
  refine congrArg x (funext fun a => Fin.ext ?_)
  match a with
  | 0 => show 128 * k.val + 1 * r.val = 128 * k.val + r.val; omega
  | 1 => show 0 + 1 * q.val = q.val; omega

theorem scale_at (g : S1x512.Idx → Elt F .bf16) (q : Fin 512) : scale g (ix2 0 q) = g (ix2 0 q) := by
  refine congrArg g (funext fun a => Fin.ext ?_)
  match a with
  | 0 => show 0 + 1 * 0 = 0; rfl
  | 1 => show 0 + 1 * q.val = q.val; omega

/-- The result at an element: the row of the sum, normalised and scaled. -/
theorem result_at (x x' : S1x512x512.Idx → Elt Ideal .bf16) (r : S512x512.Idx → Elt Ideal .bf16) (g : S1x512.Idx → Elt Ideal .bf16)
    (p q : Fin 512) :
    result x x' r g (ix2 p q) = kernelRow (fun k => (x (ix3 0 p k) : EReal) + x' (ix3 0 p k) + r (ix2 p k)) (fun k => g (ix2 0 k)) q := by
  have hp : rowOf ⟨p.val / 128, by omega⟩ ⟨p.val % 128, Nat.mod_lt _ (by decide)⟩ = p := Fin.ext (by
    show 128 * (p.val / 128) + p.val % 128 = p.val; omega)
  refine (norm_at (chunk ⟨p.val / 128, by omega⟩ x) (chunk ⟨p.val / 128, by omega⟩ x') (rows ⟨p.val / 128, by omega⟩ r) (scale g)
    ⟨p.val % 128, Nat.mod_lt _ (by decide)⟩ q).trans ?_
  simp only [chunk_at, rows_at, scale_at, hp]

end Cert.KernelIdeal.Talk

end
-- ==== Proof.RefValue.lean ====
/- The reference's result over the extended reals, element by element. -/
module

public import proofs.«01_k».proof.Proof.RowMath
public import proofs.«01_k».proof.Proof.Gen.ReferenceIdeal.Run
public import Idealize.ShloMosaic.Lib.Pointwise

@[expose] public section

noncomputable section

namespace Cert.ReferenceIdeal.Value

open Idealize.ShloMosaic Idealize.ShloMosaic.TcCoe Idealize.SL.Sem
open Cert.ReferenceIdeal Cert.ReferenceIdeal.Gen Cert.RowMath

/-- The sum of the two partials and the residual. -/
def total (x : FVec Ideal S2x512x512 .bf16) (r : FVec Ideal S512x512 .bf16) : FVec Ideal S512x512 .f32 :=
  addf (Host.reduceAdd (extf .f32 x bitsLt_bf16_f32) (constant S_ .f32 0x00000000#32) reducesTo_S2x512x512_S512x512_d0 h_S_)
    (extf .f32 r bitsLt_bf16_f32)

/-- The root of the mean square of each row. -/
def roots (y : FVec Ideal S512x512 .f32) : FVec Ideal S512x1 .f32 :=
  Host.sqrt (addf
    (Host.divf (broadcastInDim S512x1 ![0] bcast_S512_S512x1_0
        (Host.reduceAdd (mulf y y) (constant S_ .f32 0x00000000#32) reducesTo_S512x512_S512_d1 h_S_))
      (broadcastInDim S512x1 ![] bcast_S_S512x1 (constant S_ .f32 0x44000000#32)))
    (broadcastInDim S512x1 ![] bcast_S_S512x1 (constant S_ .f32 0x358637BD#32)))

/-- The reference's result. -/
def output (x : FVec Ideal S2x512x512 .bf16) (r : FVec Ideal S512x512 .bf16) (g : FVec Ideal S512 .bf16) : FVec Ideal S512x512 .f32 :=
  mulf (Host.divf (total x r) (broadcastInDim S512x512 ![0, 1] bcast_S512x1_S512x512_0_1 (roots (total x r))))
    (broadcastInDim S512x512 ![0, 1] bcast_S1x512_S512x512_0_1 (broadcastInDim S1x512 ![1] bcast_S512_S1x512_1 (extf .f32 g bitsLt_bf16_f32)))

theorem total_at (x : FVec Ideal S2x512x512 .bf16) (r : FVec Ideal S512x512 .bf16) (p q : Fin 512) :
    total x r (ix2 p q) = (x (ix3 0 p q) : EReal) + x (ix3 1 p q) + r (ix2 p q) := by
  pointwise [total]
  rw [Fin.sum_univ_two]

theorem output_at (x : FVec Ideal S2x512x512 .bf16) (r : FVec Ideal S512x512 .bf16) (g : FVec Ideal S512 .bf16) (p q : Fin 512) :
    output x r g (ix2 p q)
      = referenceRow (fun k => (x (ix3 0 p k) : EReal) + x (ix3 1 p k) + r (ix2 p k)) (fun k => g (ix1 k)) q := by
  have h : output x r g (ix2 p q) = referenceRow (fun k => total x r (ix2 p k)) (fun k => g (ix1 k)) q := by
    pointwise [output, roots]
    rfl
  rw [h]
  simp only [total_at]

/-- The run of the reference, its result named. -/
theorem run_output (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v17) = output (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  run m ρ

end Cert.ReferenceIdeal.Value

end
-- ==== Proof.Equation.lean ====
/- Every device's result is the reference's, over the extended reals. -/
module

public import proofs.«01_k».proof.Proof.Value
public import proofs.«01_k».proof.Proof.RefValue
public import proofs.«01_k».proof.Proof.Region
public import Idealize.ShloMosaic.Lib.Layout

@[expose] public section

noncomputable section

namespace Cert.KernelIdeal.Talk

open Idealize.ShloMosaic Idealize.ShloMosaic.TcCoe
open Cert.KernelIdeal Cert.KernelIdeal.Gen Cert.RowMath

/-- Which of the two partials device `c` has: that of its place along the first mesh axis. -/
def place (c : Dev nD) : Fin 2 := ⟨c.val / 16, by have : c.val < 32 := c.isLt; omega⟩

theorem place_pr (c : Dev nD) : place (pr c) = 1 - place c := by revert c; decide

/-- Device `c`'s block of a whole array of two partials is the partial of its place. -/
theorem block_at (c : Dev nD) (x : Cert.ReferenceIdeal.S2x512x512.Idx → Elt Ideal .bf16) (p q : Fin 512) :
    (Layout.blockN S1x512x512 Cert.ReferenceIdeal.S2x512x512 (Layout.meshBlock [2, 4, 4] ![[0], [], []] c) x) (ix3 0 p q) = x (ix3 (place c) p q) := by
  rw [Layout.blockN_apply]
  refine congrArg x (funext fun a => Fin.ext ?_)
  rw [Layout.TilesN.idx_val]
  have hc : ∀ c : Dev nD, Layout.meshLin [2, 4, 4] c.val [0] = (place c).val := by decide
  match a with
  | 0 => show Layout.meshLin [2, 4, 4] c.val [0] * 1 + 0 = (place c).val; rw [hc]; omega
  | 1 => show 0 * 512 + p.val = p.val; omega
  | 2 => show 0 * 512 + q.val = q.val; omega

variable (m : (ℓ : Loc nD τ sig) → Buf (Elt Ideal) ℓ)

/-- The scale the call is given is the argument, as one row. -/
theorem gain_at (c : Dev nD) (q : Fin 512) : gain m c (ix2 0 q) = m ((c : Thread nD τ).loc main_arg2) (ix1 q) := by
  have h : gain m c = shapeCast S1x512 (m ((c : Thread nD τ).loc main_arg2) : S512.Idx → Elt Ideal .bf16) shapeCasts_S512_S1x512 := by
    show StableHlo.after hostOps0 (fun b => m (c, b)) (Proc.devRef .tc main_v1) = _
    unfold hostOps0
    after_results
    rfl
  rw [h]
  pointwise

/-- A device's result is the reference's, when the devices hold the reference's arguments: the partials by place, the others whole. -/
theorem made_eq (x : Cert.ReferenceIdeal.S2x512x512.Idx → Elt Ideal .bf16) (r : S512x512.Idx → Elt Ideal .bf16) (g : S512.Idx → Elt Ideal .bf16)
    (h0 : ∀ c : Dev nD, m ((c : Thread nD τ).loc main_arg0)
      = Layout.blockN S1x512x512 Cert.ReferenceIdeal.S2x512x512 (Layout.meshBlock [2, 4, 4] ![[0], [], []] c) x)
    (h1 : ∀ c : Dev nD, m ((c : Thread nD τ).loc main_arg1) = r) (h2 : ∀ c : Dev nD, m ((c : Thread nD τ).loc main_arg2) = g)
    (c : Dev nD) : made m c = ReferenceIdeal.Value.output x r g := by
  have hx (d : Dev nD) (p q : Fin 512) : part m d (ix3 0 p q) = x (ix3 (place d) p q) := by
    rw [show part m d = _ from (V_main_arg0 m d).trans (h0 d)]
    exact block_at d x p q
  have hr : resid m c = r := (V_main_arg1 m c).trans (h1 c)
  have hg (q : Fin 512) : gain m c (ix2 0 q) = g (ix1 q) := by rw [gain_at, h2]
  funext i
  obtain ⟨p, q, rfl⟩ : ∃ (p q : Fin 512), i = ix2 p q := ⟨i 0, i 1, eq_ix2 i⟩
  unfold made
  rw [result_at, ReferenceIdeal.Value.output_at, rows_eq]
  simp only [hx, hr, hg, place_pr]
  rcases (by decide : ∀ a : Fin 2, a = 0 ∨ a = 1) (place c) with h | h <;> rw [h]
  · rfl
  · refine congrArg (fun s => kernelRow s _ q) (funext fun k => ?_)
    exact congrArg (fun t : EReal => t + r (ix2 p k)) (add_comm _ _)

end Cert.KernelIdeal.Talk

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.SameText
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's frame: its run, at the bit patterns, with the results dropped. The two programs' text is the same. -/
theorem frame_kernel : Cert.quiescent_Kernel := fun m ρ _ => by
  rw [SameText.defs_eq]
  exact Cert.KernelIdeal.Talk.run_frame (F := Bits) m ρ

/-- The ideal kernel's frame: the same run over the extended reals. -/
theorem frame_ideal : Cert.quiescent_KernelIdeal := fun m ρ _ =>
  Cert.KernelIdeal.Talk.run_frame (F := Ideal) m ρ

/-- The reference's frame: it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run_output m ρ)

/-- Over the extended reals every device ends with the reference's result. -/
theorem algebraic : Cert.algebraic_KernelIdeal_ReferenceIdeal := fun m ρ m' ρ' _ hargs => by
  refine ⟨_, (θ_run Cert.KernelIdeal.defs _ _).mono (fun _ h c => ⟨(h.1 c).1.trans ?_, (h.1 c).2⟩)
      (Cert.KernelIdeal.Talk.run_main (F := Ideal) m ρ),
    (θ_run Cert.ReferenceIdeal.defs _ _).mono (fun _ h => h 0) (Cert.ReferenceIdeal.Value.run_output m' ρ')⟩
  exact Cert.KernelIdeal.Talk.made_eq m _ _ _ (fun c => (hargs c).1) (fun c => (hargs c).2.1) (fun c => (hargs c).2.2) c

theorem claim : Cert.Claim := ⟨Cert.Kernel.Gen.facts, Cert.KernelIdeal.Gen.facts, Cert.ReferenceIdeal.Gen.facts,
  frame_kernel, frame_ideal, frame_reference, trivial, algebraic⟩

end Cert.Proof

end
